-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_UnclippedIdeal (m : (ℓ : Loc Cert.UnclippedIdeal.nD Cert.UnclippedIdeal.τ Cert.UnclippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_UnclippedIdeal [hUnclippedIdeal : Cert.UnclippedIdeal.Facts] : Prop :=
  ∀ (m : (ℓ : Loc Cert.UnclippedIdeal.nD Cert.UnclippedIdeal.τ Cert.UnclippedIdeal.sig) → Buf (Elt Ideal) ℓ) (g : Dev Cert.UnclippedIdeal.nD → PrngReg), Pre_UnclippedIdeal m →
    θ_run (Cert.UnclippedIdeal.defs (F := Ideal)) (onTc (τ := Cert.UnclippedIdeal.τ) (Cert.UnclippedIdeal.main (F := Ideal))) ⟨m, fun _ => 0, g⟩ (fun r => (∀ c : Dev Cert.UnclippedIdeal.nD,
      r.2.mem ((c.tc : Thread Cert.UnclippedIdeal.nD Cert.UnclippedIdeal.τ).loc Cert.UnclippedIdeal.main_arg0) = m ((c.tc : Thread Cert.UnclippedIdeal.nD Cert.UnclippedIdeal.τ).loc Cert.UnclippedIdeal.main_arg0)
      ∧ r.2.mem ((c.tc : Thread Cert.UnclippedIdeal.nD Cert.UnclippedIdeal.τ).loc Cert.UnclippedIdeal.main_arg1) = m ((c.tc : Thread Cert.UnclippedIdeal.nD Cert.UnclippedIdeal.τ).loc Cert.UnclippedIdeal.main_arg1)
      ∧ r.2.mem ((c.tc : Thread Cert.UnclippedIdeal.nD Cert.UnclippedIdeal.τ).loc Cert.UnclippedIdeal.main_arg2) = m ((c.tc : Thread Cert.UnclippedIdeal.nD Cert.UnclippedIdeal.τ).loc Cert.UnclippedIdeal.main_arg2)
      ∧ r.2.mem ((c.tc : Thread Cert.UnclippedIdeal.nD Cert.UnclippedIdeal.τ).loc Cert.UnclippedIdeal.main_arg3) = m ((c.tc : Thread Cert.UnclippedIdeal.nD Cert.UnclippedIdeal.τ).loc Cert.UnclippedIdeal.main_arg3))
      ∧ r.2.sem = fun _ => 0)

def preserves_Kernel_KernelIdeal : Prop :=
  True

def algebraic_KernelIdeal_UnclippedIdeal [hKernelIdeal : Cert.KernelIdeal.Facts] [hUnclippedIdeal : Cert.UnclippedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnclippedIdeal.nD Cert.UnclippedIdeal.τ Cert.UnclippedIdeal.sig) → Buf (Elt Ideal) ℓ) (g' : Dev Cert.UnclippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.UnclippedIdeal.nD).tc : Thread Cert.UnclippedIdeal.nD Cert.UnclippedIdeal.τ).loc Cert.UnclippedIdeal.main_arg0))
      ∧ m ((c.tc : Thread Cert.KernelIdeal.nD Cert.KernelIdeal.τ).loc Cert.KernelIdeal.main_arg1) = m' (((0 : Dev Cert.UnclippedIdeal.nD).tc : Thread Cert.UnclippedIdeal.nD Cert.UnclippedIdeal.τ).loc Cert.UnclippedIdeal.main_arg1)
      ∧ m ((c.tc : Thread Cert.KernelIdeal.nD Cert.KernelIdeal.τ).loc Cert.KernelIdeal.main_arg2) = m' (((0 : Dev Cert.UnclippedIdeal.nD).tc : Thread Cert.UnclippedIdeal.nD Cert.UnclippedIdeal.τ).loc Cert.UnclippedIdeal.main_arg2)
      ∧ m ((c.tc : Thread Cert.KernelIdeal.nD Cert.KernelIdeal.τ).loc Cert.KernelIdeal.main_arg3) = m' (((0 : Dev Cert.UnclippedIdeal.nD).tc : Thread Cert.UnclippedIdeal.nD Cert.UnclippedIdeal.τ).loc Cert.UnclippedIdeal.main_arg3)) →
    ∃ (v0 : Buf (Elt Ideal) (((0 : Dev Cert.UnclippedIdeal.nD).tc : Thread Cert.UnclippedIdeal.nD Cert.UnclippedIdeal.τ).loc Cert.UnclippedIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.UnclippedIdeal.defs (F := Ideal)) (onTc (τ := Cert.UnclippedIdeal.τ) (Cert.UnclippedIdeal.main (F := Ideal))) ⟨m', fun _ => 0, g'⟩ (fun r =>
          r.2.mem (((0 : Dev Cert.UnclippedIdeal.nD).tc : Thread Cert.UnclippedIdeal.nD Cert.UnclippedIdeal.τ).loc Cert.UnclippedIdeal.main_v9) = v0
          ∧ r.2.mem (((0 : Dev Cert.UnclippedIdeal.nD).tc : Thread Cert.UnclippedIdeal.nD Cert.UnclippedIdeal.τ).loc Cert.UnclippedIdeal.main_arg0) = m' (((0 : Dev Cert.UnclippedIdeal.nD).tc : Thread Cert.UnclippedIdeal.nD Cert.UnclippedIdeal.τ).loc Cert.UnclippedIdeal.main_arg0)
          ∧ r.2.mem (((0 : Dev Cert.UnclippedIdeal.nD).tc : Thread Cert.UnclippedIdeal.nD Cert.UnclippedIdeal.τ).loc Cert.UnclippedIdeal.main_arg1) = m' (((0 : Dev Cert.UnclippedIdeal.nD).tc : Thread Cert.UnclippedIdeal.nD Cert.UnclippedIdeal.τ).loc Cert.UnclippedIdeal.main_arg1)
          ∧ r.2.mem (((0 : Dev Cert.UnclippedIdeal.nD).tc : Thread Cert.UnclippedIdeal.nD Cert.UnclippedIdeal.τ).loc Cert.UnclippedIdeal.main_arg2) = m' (((0 : Dev Cert.UnclippedIdeal.nD).tc : Thread Cert.UnclippedIdeal.nD Cert.UnclippedIdeal.τ).loc Cert.UnclippedIdeal.main_arg2)
          ∧ r.2.mem (((0 : Dev Cert.UnclippedIdeal.nD).tc : Thread Cert.UnclippedIdeal.nD Cert.UnclippedIdeal.τ).loc Cert.UnclippedIdeal.main_arg3) = m' (((0 : Dev Cert.UnclippedIdeal.nD).tc : Thread Cert.UnclippedIdeal.nD Cert.UnclippedIdeal.τ).loc Cert.UnclippedIdeal.main_arg3))

def algebraic_KernelIdeal_ReferenceIdeal_on_unclipped [hKernelIdeal : Cert.KernelIdeal.Facts] [hReferenceIdeal : Cert.ReferenceIdeal.Facts] [hOn_unclipped : Cert.On_unclipped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 256]⟩ : Shape).Idx, (Layout.block ⟨2, ![4096, 256]⟩ ⟨2, ![4096, 2048]⟩ 1 8 c ((Cert.On_unclipped.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)))) : (⟨2, ![4096, 256]⟩ : Shape).Idx → _) i = 1#1 → r.2.mem ((c.tc : Thread Cert.KernelIdeal.nD Cert.KernelIdeal.τ).loc Cert.KernelIdeal.main_v1) i = (Layout.block ⟨2, ![4096, 256]⟩ ⟨2, ![4096, 2048]⟩ 1 8 c v0 : (⟨2, ![4096, 256]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 2048]⟩ : Shape).Idx, (Cert.On_unclipped.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3))) i = 1#1 → r.2.mem (((0 : Dev Cert.ReferenceIdeal.nD).tc : Thread Cert.ReferenceIdeal.nD Cert.ReferenceIdeal.τ).loc Cert.ReferenceIdeal.main_v10) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hUnclippedIdeal : Cert.UnclippedIdeal.Facts) (hOn_unclipped : Cert.On_unclipped.Facts),
    quiescent_Kernel (hKernel := hKernel)
    ∧ quiescent_KernelIdeal (hKernelIdeal := hKernelIdeal)
    ∧ quiescent_ReferenceIdeal (hReferenceIdeal := hReferenceIdeal)
    ∧ quiescent_UnclippedIdeal (hUnclippedIdeal := hUnclippedIdeal)
    ∧ preserves_Kernel_KernelIdeal
    ∧ algebraic_KernelIdeal_UnclippedIdeal (hKernelIdeal := hKernelIdeal) (hUnclippedIdeal := hUnclippedIdeal)
    ∧ algebraic_KernelIdeal_ReferenceIdeal_on_unclipped (hKernelIdeal := hKernelIdeal) (hReferenceIdeal := hReferenceIdeal) (hOn_unclipped := hOn_unclipped)
-- ==== On_unclipped.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

class Facts : Prop where
  bcast_S1_S1x1_1 : S1.BroadcastsInDim S1x1 (![1] : Fin 1 → Fin S1x1.rank)
  bcast_S1x1_S4096x2048_0_1 : S1x1.BroadcastsInDim S4096x2048 (![0, 1] : Fin 2 → Fin S4096x2048.rank)
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) (main_arg2 : FVec F S1 .f32) (main_arg3 : FVec F S1 .f32) : IVec S4096x2048 1 :=
  let main_v0 : FVec F S4096x2048 .f32 := (fun l r => Host.dotGeneral dot_S4096x4096_S4096x2048_S4096x2048_1_0_0_1_n_n none l r) main_arg0 main_arg1
  let main_v1 : FVec F S1 .f32 := mulf main_arg2 main_arg3
  let main_v2 : FVec F S1x1 .f32 := broadcastInDim S1x1 ![1] bcast_S1_S1x1_1 main_v1
  let main_v3 : FVec F S4096x2048 .f32 := broadcastInDim S4096x2048 ![0, 1] bcast_S1x1_S4096x2048_0_1 main_v2
  let main_v4 : FVec F S4096x2048 .f32 := mulf main_v0 main_v3
  let main_cst : FVec F S_ .f32 := constant S_ .f32 0xC2700000#32
  let main_v5 : FVec F S4096x2048 .f32 := broadcastInDim S4096x2048 ![] bcast_S_S4096x2048 main_cst
  let main_v6 : IVec S4096x2048 1 := cmpf .oge main_v4 main_v5
  let main_cst_0 : FVec F S_ .f32 := constant S_ .f32 0x42700000#32
  let main_v7 : FVec F S4096x2048 .f32 := broadcastInDim S4096x2048 ![] bcast_S_S4096x2048 main_cst_0
  let main_v8 : IVec S4096x2048 1 := cmpf .ole main_v4 main_v7
  let main_v9 : IVec S4096x2048 1 := andi main_v6 main_v8
  main_v9
-- ==== Kernel.lean ====
abbrev S512x4096 : Shape := ⟨2, ![512, 4096]⟩
abbrev S4096x2048 : Shape := ⟨2, ![4096, 2048]⟩
abbrev S1 : Shape := ⟨1, ![1]⟩
abbrev S4096x256 : Shape := ⟨2, ![4096, 256]⟩
abbrev S8x4096x256 : Shape := ⟨3, ![8, 4096, 256]⟩
abbrev S7x512x256 : Shape := ⟨3, ![7, 512, 256]⟩
abbrev S8x512x256 : Shape := ⟨3, ![8, 512, 256]⟩
abbrev S9 : Shape := ⟨1, ![9]⟩
abbrev S8 : Shape := ⟨1, ![8]⟩
abbrev S7 : Shape := ⟨1, ![7]⟩
abbrev S_ : Shape := ⟨0, ![]⟩
abbrev S1x4096x256 : Shape := ⟨3, ![1, 4096, 256]⟩
abbrev S512x256 : Shape := ⟨2, ![512, 256]⟩
abbrev S1x512x256 : Shape := ⟨3, ![1, 512, 256]⟩

abbrev nBuf : Space → Nat
  | .hbm => 5
  | .vmem => 5
  | .smem => 2
  | _ => 0

abbrev bufTy : (tb : Table) → Fin (tcTables nBuf tb) → BufTy
  | .hbm, ⟨0, _⟩ => ⟨S512x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x256, .f32⟩
  | .local _ .vmem, ⟨0, _⟩ => ⟨S512x4096, .f32⟩
  | .local _ .vmem, ⟨1, _⟩ => ⟨S8x4096x256, .f32⟩
  | .local _ .vmem, ⟨2, _⟩ => ⟨S7x512x256, .bf16⟩
  | .local _ .vmem, ⟨3, _⟩ => ⟨S4096x256, .bf16⟩
  | .local _ .vmem, ⟨4, _⟩ => ⟨S8x512x256, .f32⟩
  | .local _ .smem, ⟨0, _⟩ => ⟨S1, .f32⟩
  | .local _ .smem, ⟨1, _⟩ => ⟨S1, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v7 : BitVec 32 := Scalar.xori v2 c6_i32
  let c1_i32_2 : BitVec 32 := 1#32
  let v8 : BitVec 32 := Scalar.muli v7 c1_i32_2
  let v9 : BitVec 32 := Scalar.addi c0_i32 v8
  v9.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 32 := Scalar.xori v2 c2_i32
  let c1_i32_4 : BitVec 32 := 1#32
  let v11 : BitVec 32 := Scalar.muli v10 c1_i32_4
  let v12 : BitVec 32 := Scalar.addi c0_i32_5 v11
  v12.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v13 : BitVec 32 := Scalar.xori v2 c5_i32
  let c1_i32_7 : BitVec 32 := 1#32
  let v14 : BitVec 32 := Scalar.muli v13 c1_i32_7
  let v15 : BitVec 32 := Scalar.addi c0_i32_8 v14
  v15.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v16 : BitVec 32 := Scalar.xori v2 c7_i32
  let c1_i32_10 : BitVec 32 := 1#32
  let v17 : BitVec 32 := Scalar.muli v16 c1_i32_10
  let v18 : BitVec 32 := Scalar.addi c0_i32_11 v17
  v18.toNat
def k0_dev5 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_12 : BitVec 32 := 1#32
  let v19 : BitVec 32 := Scalar.xori v2 c1_i32_12
  let c1_i32_14 : BitVec 32 := 1#32
  let v20 : BitVec 32 := Scalar.muli v19 c1_i32_14
  let v21 : BitVec 32 := Scalar.addi c0_i32_15 v20
  v21.toNat
def k0_dev6 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v22 : BitVec 32 := Scalar.xori v2 c3_i32
  let c1_i32_17 : BitVec 32 := 1#32
  let v23 : BitVec 32 := Scalar.muli v22 c1_i32_17
  let v24 : BitVec 32 := Scalar.addi c0_i32_18 v23
  v24.toNat
def k0_dev7 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v25 : BitVec 32 := Scalar.xori v2 c4_i32
  let c1_i32_20 : BitVec 32 := 1#32
  let v26 : BitVec 32 := Scalar.muli v25 c1_i32_20
  let v27 : BitVec 32 := Scalar.addi c0_i32_21 v26
  v27.toNat
def k0_off1 (d0 : Dev nD) (c6_i32_23 : BitVec 32) : Fin 2 → Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v30 : BitVec 32 := Scalar.xori v2 c6_i32_23
  let c256_i32 : BitVec 32 := 256#32
  let v31 : BitVec 32 := Scalar.muli v30 c256_i32
  ![0, v31.toNat]
def k0_off2 (d0 : Dev nD) : Fin 2 → Nat :=
  let c0_i32_76 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_71 : BitVec 32 := 256#32
  let v79 : BitVec 32 := Scalar.muli v2 c256_i32_71
  ![0, v79.toNat]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v109 : BitVec 32 := Scalar.muli v2 c512_i32
  let c0_i32_100 : BitVec 32 := 0#32
  ![v109.toNat, 0]
def k0_dev8 (d0 : Dev nD) : Nat :=
  let c0_i32_99 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_94 : BitVec 32 := 6#32
  let v108 : BitVec 32 := Scalar.xori v2 c6_i32_94
  let c1_i32_98 : BitVec 32 := 1#32
  let v110 : BitVec 32 := Scalar.muli v108 c1_i32_98
  let v111 : BitVec 32 := Scalar.addi c0_i32_99 v110
  v111.toNat
def k0_dev9 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_116 : BitVec 32 := 2#32
  let v138 : BitVec 32 := Scalar.xori v2 c2_i32_116
  let c1_i32_121 : BitVec 32 := 1#32
  let v140 : BitVec 32 := Scalar.muli v138 c1_i32_121
  let v141 : BitVec 32 := Scalar.addi c0_i32_122 v140
  v141.toNat
def k0_dev10 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_139 : BitVec 32 := 5#32
  let v168 : BitVec 32 := Scalar.xori v2 c5_i32_139
  let c1_i32_144 : BitVec 32 := 1#32
  let v170 : BitVec 32 := Scalar.muli v168 c1_i32_144
  let v171 : BitVec 32 := Scalar.addi c0_i32_145 v170
  v171.toNat
def k0_dev11 (d0 : Dev nD) : Nat :=
  let c0_i32_168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_162 : BitVec 32 := 7#32
  let v198 : BitVec 32 := Scalar.xori v2 c7_i32_162
  let c1_i32_167 : BitVec 32 := 1#32
  let v200 : BitVec 32 := Scalar.muli v198 c1_i32_167
  let v201 : BitVec 32 := Scalar.addi c0_i32_168 v200
  v201.toNat
def k0_dev12 (d0 : Dev nD) : Nat :=
  let c0_i32_191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_185 : BitVec 32 := 1#32
  let v228 : BitVec 32 := Scalar.xori v2 c1_i32_185
  let c1_i32_190 : BitVec 32 := 1#32
  let v230 : BitVec 32 := Scalar.muli v228 c1_i32_190
  let v231 : BitVec 32 := Scalar.addi c0_i32_191 v230
  v231.toNat
def k0_dev13 (d0 : Dev nD) : Nat :=
  let c0_i32_214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_208 : BitVec 32 := 3#32
  let v258 : BitVec 32 := Scalar.xori v2 c3_i32_208
  let c1_i32_213 : BitVec 32 := 1#32
  let v260 : BitVec 32 := Scalar.muli v258 c1_i32_213
  let v261 : BitVec 32 := Scalar.addi c0_i32_214 v260
  v261.toNat
def k0_dev14 (d0 : Dev nD) : Nat :=
  let c0_i32_237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_231 : BitVec 32 := 4#32
  let v288 : BitVec 32 := Scalar.xori v2 c4_i32_231
  let c1_i32_236 : BitVec 32 := 1#32
  let v290 : BitVec 32 := Scalar.muli v288 c1_i32_236
  let v291 : BitVec 32 := Scalar.addi c0_i32_237 v290
  v291.toNat
def k0_off4 (d0 : Dev nD) (c6_i32_259 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v322 : BitVec 32 := Scalar.xori v2 c6_i32_259
  let c512_i32_260 : BitVec 32 := 512#32
  let v323 : BitVec 32 := Scalar.muli v322 c512_i32_260
  let c0_i32_266 : BitVec 32 := 0#32
  ![v323.toNat, 0]
def k0_off5 (d0 : Dev nD) (c6_i32_259 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v322 : BitVec 32 := Scalar.xori v2 c6_i32_259
  let c512_i32_270 : BitVec 32 := 512#32
  let v332 : BitVec 32 := Scalar.muli v322 c512_i32_270
  let v333 : Index := Scalar.indexCast v332
  let c0_271 : Index := 0#32
  ![v333.toNat, 0]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== UnclippedIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Proof.Proto.lean ====
/-
# The protocol of the eight-device kernel

Device `c` computes eight blocks of `silu (scale · x_c · w)`, one per device. Seven of them it sends to the
other devices and one it keeps. This file fixes the vocabulary of the proof: the partner of a device at a slot,
the memory references the transfers go through, the contents each of them carries, the counter cells, what
completing each cell hands over, what each device owes at launch, and the order in which cells may be waited for.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: the staging pipeline's rounds and the kernel's own, whose duties are numbered by slot. -/
abbrev UU : Type := UR sig nD τ × URounds (GSem nD τ sig) (Fin 7)

local notation "𝕄" => MT nD τ sig Unit (Elt F) ℕ UU ℕ

abbrev EP : Emb (UR sig nD τ) (MT nD τ sig Unit (Elt F) ℕ UU ℕ) := embL
abbrev ER : Emb (URounds (GSem nD τ sig) (Fin 7)) (MT nD τ sig Unit (Elt F) ℕ UU ℕ) := embR

abbrev 𝒱₀ : Variants := Variants.none

variable (m : (ℓ : Loc nD τ sig) → Buf (Elt F) ℓ) (ρ : Dev nD → PrngReg)

/-! ## Partners -/

/-- The word a device's number is combined with to name its partner at slot `q`; slot 7 is the device itself. -/
def mask : Fin 8 → Nat := ![6, 2, 5, 7, 1, 3, 4, 0]

/-- The partner of device `c` at slot `q`. -/
def pr (c : Dev nD) (q : Fin 8) : Dev nD := ⟨c.val ^^^ mask q, by revert c q; decide⟩

/-- A transfer slot as one of the eight. -/
abbrev up (p : Fin 7) : Fin 8 := p.castSucc

/-- A device is the partner of its partner, at the same slot. -/
theorem pr_pr (c : Dev nD) (q : Fin 8) : pr (pr c q) q = c := by revert c q; decide
/-- The partners of a device at different slots are different. -/
theorem pr_inj (c : Dev nD) : Function.Injective (pr c) := by revert c; decide
/-- Every device is the partner of a device at some slot. -/
theorem pr_surj (c : Dev nD) : Function.Surjective (pr c) := by revert c; decide
/-- At slot 7 a device is its own partner. -/
theorem pr_own (c : Dev nD) : pr c 7 = c := by revert c; decide

/-- At one slot, the partners are a permutation of the devices; -/
def prPerm (q : Fin 8) : Dev nD ≃ Dev nD := ⟨fun c => pr c q, fun c => pr c q, fun c => pr_pr c q, fun c => pr_pr c q⟩
/-- at one device, the slots are numbered by the devices. -/
def slots (c : Dev nD) : Fin 8 ≃ Dev nD := Equiv.ofBijective (pr c) ⟨pr_inj c, pr_surj c⟩

/-- The word of slot `p` in the program's index arithmetic. -/
def word : Fin 7 → BitVec 32 := ![6#32, 2#32, 5#32, 7#32, 1#32, 3#32, 4#32]

/-- The devices the signals name, in program order, are the partners at slots 0 to 6; -/
theorem dev1_eq (c : Dev nD) : (⟨k0_dev1 c, k0_dev1_lt c⟩ : Dev nD) = pr c (up 0) := by revert c; decide
/-- The device that signal 2 of the program names is the partner at slot 1. -/
theorem dev2_eq (c : Dev nD) : (⟨k0_dev2 c, k0_dev2_lt c⟩ : Dev nD) = pr c (up 1) := by revert c; decide
/-- The device that signal 3 of the program names is the partner at slot 2. -/
theorem dev3_eq (c : Dev nD) : (⟨k0_dev3 c, k0_dev3_lt c⟩ : Dev nD) = pr c (up 2) := by revert c; decide
/-- The device that signal 4 of the program names is the partner at slot 3. -/
theorem dev4_eq (c : Dev nD) : (⟨k0_dev4 c, k0_dev4_lt c⟩ : Dev nD) = pr c (up 3) := by revert c; decide
/-- The device that signal 5 of the program names is the partner at slot 4. -/
theorem dev5_eq (c : Dev nD) : (⟨k0_dev5 c, k0_dev5_lt c⟩ : Dev nD) = pr c (up 4) := by revert c; decide
/-- The device that signal 6 of the program names is the partner at slot 5. -/
theorem dev6_eq (c : Dev nD) : (⟨k0_dev6 c, k0_dev6_lt c⟩ : Dev nD) = pr c (up 5) := by revert c; decide
/-- The device that signal 7 of the program names is the partner at slot 6. -/
theorem dev7_eq (c : Dev nD) : (⟨k0_dev7 c, k0_dev7_lt c⟩ : Dev nD) = pr c (up 6) := by revert c; decide
/-- and so are the devices the transfers name. -/
theorem dev8_eq (c : Dev nD) : (⟨k0_dev8 c, k0_dev8_lt c⟩ : Dev nD) = pr c (up 0) := by revert c; decide
/-- The device that transfer 2 of the program names is the partner at slot 1. -/
theorem dev9_eq (c : Dev nD) : (⟨k0_dev9 c, k0_dev9_lt c⟩ : Dev nD) = pr c (up 1) := by revert c; decide
/-- The device that transfer 3 of the program names is the partner at slot 2. -/
theorem dev10_eq (c : Dev nD) : (⟨k0_dev10 c, k0_dev10_lt c⟩ : Dev nD) = pr c (up 2) := by revert c; decide
/-- The device that transfer 4 of the program names is the partner at slot 3. -/
theorem dev11_eq (c : Dev nD) : (⟨k0_dev11 c, k0_dev11_lt c⟩ : Dev nD) = pr c (up 3) := by revert c; decide
/-- The device that transfer 5 of the program names is the partner at slot 4. -/
theorem dev12_eq (c : Dev nD) : (⟨k0_dev12 c, k0_dev12_lt c⟩ : Dev nD) = pr c (up 4) := by revert c; decide
/-- The device that transfer 6 of the program names is the partner at slot 5. -/
theorem dev13_eq (c : Dev nD) : (⟨k0_dev13 c, k0_dev13_lt c⟩ : Dev nD) = pr c (up 5) := by revert c; decide
/-- The device that transfer 7 of the program names is the partner at slot 6. -/
theorem dev14_eq (c : Dev nD) : (⟨k0_dev14 c, k0_dev14_lt c⟩ : Dev nD) = pr c (up 6) := by revert c; decide

/-- The column offset of the weights slice a slot reads; -/
theorem off1_eq (c : Dev nD) (p : Fin 7) : k0_off1 c (word p) = ![0, 256 * (pr c (up p)).val] := by
  revert c p; decide
/-- The column offset of the weights slice of a device's own block. -/
theorem off2_eq (c : Dev nD) : k0_off2 c = ![0, 256 * (pr c 7).val] := by revert c; decide
/-- the row offset of a device's own block; -/
theorem off3_eq (c : Dev nD) : k0_off3 c = ![512 * c.val, 0] := by revert c; decide
/-- and of the block a slot receives. -/
theorem off4_eq (c : Dev nD) (p : Fin 7) : k0_off4 c (word p) = ![512 * (pr c (up p)).val, 0] := by
  revert c p; decide
/-- The row offset of the block a slot reads back from the receive buffer. -/
theorem off5_eq (c : Dev nD) (p : Fin 7) : k0_off5 c (word p) = ![512 * (pr c (up p)).val, 0] := by
  revert c p; decide

/-! ## The memory references -/

abbrev xA : Memref sig .tc .hbm S512x4096 .f32 := Memref.whole main_arg0
abbrev wA : Memref sig .tc .hbm S4096x2048 .f32 := Memref.whole main_arg1
abbrev oA : Memref sig .tc .hbm S4096x256 .f32 := Memref.whole main_v1
abbrev xB : Memref sig .tc .vmem S512x4096 .f32 := Memref.whole cc0_scratch0
abbrev wB : Memref sig .tc .vmem S8x4096x256 .f32 := Memref.whole cc0_scratch1
abbrev sB : Memref sig .tc .vmem S7x512x256 .bf16 := Memref.whole cc0_scratch2
abbrev gB : Memref sig .tc .vmem S4096x256 .bf16 := Memref.whole cc0_scratch3
abbrev tB : Memref sig .tc .vmem S8x512x256 .f32 := Memref.whole cc0_scratch4

/-- The slots of the weights buffer lie inside it. -/
theorem wInb (q : Fin 8) : ∀ a, (![q.val, 0, 0] : Fin 3 → Nat) a + S1x4096x256.size a ≤ S8x4096x256.size a := by revert q; decide
/-- The slots of the send buffer lie inside it. -/
theorem sInb (p : Fin 7) : ∀ a, (![p.val, 0, 0] : Fin 3 → Nat) a + S1x512x256.size a ≤ S7x512x256.size a := by revert p; decide
/-- The slots of the output buffer lie inside it. -/
theorem tInb (q : Fin 8) : ∀ a, (![q.val, 0, 0] : Fin 3 → Nat) a + S1x512x256.size a ≤ S8x512x256.size a := by revert q; decide
/-- The columns of each device lie inside the weights. -/
theorem cInb (d : Dev nD) : ∀ a, (![0, 256 * d.val] : Fin 2 → Nat) a + S4096x256.size a ≤ S4096x2048.size a := by revert d; decide
/-- The rows of each device lie inside a stacked result. -/
theorem rInb (d : Dev nD) : ∀ a, (![512 * d.val, 0] : Fin 2 → Nat) a + S512x256.size a ≤ S4096x256.size a := by revert d; decide

/-- The slots of the weights, send and output buffers, -/
abbrev wRect (q : Fin 8) : Rect S8x4096x256 := Rect.unit (s := S8x4096x256) ![q.val, 0, 0] S1x4096x256.size (wInb q)
abbrev sRect (p : Fin 7) : Rect S7x512x256 := Rect.unit (s := S7x512x256) ![p.val, 0, 0] S1x512x256.size (sInb p)
abbrev tRect (q : Fin 8) : Rect S8x512x256 := Rect.unit (s := S8x512x256) ![q.val, 0, 0] S1x512x256.size (tInb q)
/-- the columns of the weights that make device `d`'s block, and the rows of a stacked result that come from device `d`. -/
abbrev cRect (d : Dev nD) : Rect S4096x2048 := Rect.unit (s := S4096x2048) ![0, 256 * d.val] S4096x256.size (cInb d)
abbrev rRect (d : Dev nD) : Rect S4096x256 := Rect.unit (s := S4096x256) ![512 * d.val, 0] S512x256.size (rInb d)

abbrev wSlot (q : Fin 8) : Memref sig .tc .vmem S1x4096x256 .f32 := wB.slice (wRect q) (fun _ => rfl)
abbrev wSq (q : Fin 8) : Memref sig .tc .vmem S4096x256 .f32 := (wSlot q).squeeze S4096x256 squeezes_S1x4096x256_S4096x256
abbrev sSlot (p : Fin 7) : Memref sig .tc .vmem S1x512x256 .bf16 := sB.slice (sRect p) (fun _ => rfl)
abbrev sSq (p : Fin 7) : Memref sig .tc .vmem S512x256 .bf16 := (sSlot p).squeeze S512x256 squeezes_S1x512x256_S512x256
abbrev tSlot (q : Fin 8) : Memref sig .tc .vmem S1x512x256 .f32 := tB.slice (tRect q) (fun _ => rfl)
abbrev tSq (q : Fin 8) : Memref sig .tc .vmem S512x256 .f32 := (tSlot q).squeeze S512x256 squeezes_S1x512x256_S512x256
abbrev wCol (d : Dev nD) : Memref sig .tc .hbm S4096x256 .f32 := wA.slice (cRect d) (fun _ => rfl)
abbrev gRow (d : Dev nD) : Memref sig .tc .vmem S512x256 .bf16 := gB.slice (rRect d) (fun _ => rfl)
abbrev oRow (d : Dev nD) : Memref sig .tc .hbm S512x256 .f32 := oA.slice (rRect d) (fun _ => rfl)

/-! ## The contents -/

/-- Device `c`'s rows of `x`, -/
def xin (c : Dev nD) : S512x4096.Idx → Elt F .f32 := m ((c : Thread nD τ).loc main_arg0)
/-- the columns of its `w` that make device `d`'s block, -/
def wcol (c d : Dev nD) : S4096x256.Idx → Elt F .f32 := (wCol d).view.read (Elt F) (m ((c : Thread nD τ).loc main_arg1))
/-- the same as a slot of the weights buffer, -/
def wslab (c d : Dev nD) : S1x4096x256.Idx → Elt F .f32 :=
  fun j => wcol m c d ((Shape.reshapeEquiv squeezes_S1x4096x256_S4096x256.numel_eq).symm j)
/-- and its scale. -/
def scale (c : Dev nD) : F .f32 :=
  k0_pay1 ((m ((c : Thread nD τ).loc main_arg2) : S1.Idx → Elt F .f32) (Shape.Idx.first (numel1_S1.symm ▸ Nat.one_pos)))
    ((m ((c : Thread nD τ).loc main_arg3) : S1.Idx → Elt F .f32) (Shape.Idx.first (numel1_S1.symm ▸ Nat.one_pos)))

/-- The block device `c` computes for device `d`, as it lies in the send buffer, -/
def chunkSlot (c d : Dev nD) : S1x512x256.Idx → Elt F .bf16 := k0_pay4 (scale m c) (k0_pay2 (xin m c)) (wslab m c d)
/-- and as it is transferred. -/
def chunk (c d : Dev nD) : S512x256.Idx → Elt F .bf16 :=
  fun j => chunkSlot m c d (Shape.reshapeEquiv squeezes_S1x512x256_S512x256.numel_eq j)
/-- The block of rows device `c` writes to its result at slot `q`, as it lies in the output buffer: its own block at
    slot 7, the one its partner computed for it at the others; -/
def outSlot (c : Dev nD) (q : Fin 8) : S1x512x256.Idx → Elt F .f32 :=
  if q = 7 then k0_pay10 (scale m c) (k0_pay2 (xin m c)) (wslab m c (pr c 7)) else k0_pay11 (chunk m (pr c q) c)
/-- and as it is copied out. -/
def outv (c : Dev nD) (q : Fin 8) : S512x256.Idx → Elt F .f32 :=
  fun j => outSlot m c q (Shape.reshapeEquiv squeezes_S1x512x256_S512x256.numel_eq j)

/-! ## The counter cells -/

/-- The barrier's counter, -/
abbrev barS : Sem sig := sig.barrier 0 rfl
/-- and the transfers' counters: the copy of `x`, the copies of `w`, the copies out, the sends and the receives. -/
abbrev xS : DmaSem sig := ⟨2, by decide⟩
abbrev wS (q : Fin 8) : DmaSem sig := ⟨3 + q.val, by have := q.isLt; show _ < 33; omega⟩
abbrev oS (q : Fin 8) : DmaSem sig := ⟨11 + q.val, by have := q.isLt; show _ < 33; omega⟩
abbrev sS (p : Fin 7) : DmaSem sig := ⟨19 + p.val, by have := p.isLt; show _ < 33; omega⟩
abbrev rS (p : Fin 7) : DmaSem sig := ⟨26 + p.val, by have := p.isLt; show _ < 33; omega⟩

abbrev barCell (c : Dev nD) : GSem nD τ sig := ((c : Thread nD τ), .reg barS)
abbrev dCell (c : Dev nD) (s : DmaSem sig) : GSem nD τ sig := ((c : Thread nD τ), .dma s)

/-- The credit of each kind of transfer: the length of its destination. -/
@[irreducible] def Nx : ℕ := xB.view.dmaCredit
@[irreducible] def Nw : ℕ := (wSq 0).view.dmaCredit
@[irreducible] def No : ℕ := (oRow 0).view.dmaCredit
@[irreducible] def Ng : ℕ := (gRow 0).view.dmaCredit

/-- The credit of the copy of `x` is positive. -/
theorem Nx_pos : 0 < Nx := by unfold Nx; exact View.dmaCredit_pos _ (by decide)
/-- The credit of a copy of columns of `w` is positive. -/
theorem Nw_pos : 0 < Nw := by unfold Nw; exact View.dmaCredit_pos _ (by decide)
/-- The credit of a copy out is positive. -/
theorem No_pos : 0 < No := by unfold No; exact View.dmaCredit_pos _ (by decide)
/-- The credit of a transferred block is positive. -/
theorem Ng_pos : 0 < Ng := by unfold Ng; exact View.dmaCredit_pos _ (by decide)

end Cert.Scatter

end
-- ==== Proof.Sched.lean ====
/-
# The rounds of the kernel's counters

Every counter of the kernel runs for one round. A transfer's counter has one duty, whose payload is both ends of
the transfer; a device's barrier counter has seven, one per partner, and a partner's signal hands over the rows of
its receive buffer the device is going to write. The obligations at launch are the barrier signals and the
transfers to other devices; waits are ordered by levels: local transfers, then the barrier, then receives.
-/
module

public import proofs.«01_k».proof.Proof.Proto

@[expose] public section

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- What a transfer counter counts: a staging copy of the launch, the copy of `x`, a copy of columns of `w`, a copy
    out, a send, a receive. -/
inductive Kind where
  | stage
  | x
  | w (q : Fin 8)
  | o (q : Fin 8)
  | s (p : Fin 7)
  | r (p : Fin 7)
deriving DecidableEq

/-- The counters in the order they are numbered. -/
def kindOf (s : DmaSem sig) : Kind :=
  if s.val < 2 then .stage else if s.val = 2 then .x
  else if s.val < 11 then .w ⟨(s.val - 3) % 8, Nat.mod_lt _ (by decide)⟩
  else if s.val < 19 then .o ⟨(s.val - 11) % 8, Nat.mod_lt _ (by decide)⟩
  else if s.val < 26 then .s ⟨(s.val - 19) % 7, Nat.mod_lt _ (by decide)⟩
  else .r ⟨(s.val - 26) % 7, Nat.mod_lt _ (by decide)⟩

/-- The counter of the copy of `x` is of that kind. -/
theorem kind_x : kindOf xS = .x := by decide
/-- The counter of a copy of `w` is of that kind and slot. -/
theorem kind_w (q : Fin 8) : kindOf (wS q) = .w q := by revert q; decide
/-- The counter of a copy out is of that kind and slot. -/
theorem kind_o (q : Fin 8) : kindOf (oS q) = .o q := by revert q; decide
/-- The counter of a send is of that kind and slot. -/
theorem kind_s (p : Fin 7) : kindOf (sS p) = .s p := by revert p; decide
/-- The counter of a receive is of that kind and slot. -/
theorem kind_r (p : Fin 7) : kindOf (rS p) = .r p := by revert p; decide

/-- The memref is held in full at some contents. -/
def held (c : Thread nD τ) {sp : Space} {sh : Shape} {e : EltTy} (M : Memref sig c.2.kind sp sh e) : sProp 𝕄 :=
  iprop(∃ X, owns c M fullShare X)

/-- What the signal of the partner at slot `p` hands device `c`: the rows of the partner's receive buffer where
    `c`'s block goes. -/
def barPay (c : Dev nD) (p : Fin 7) : sProp 𝕄 := held (pr c (up p) : Thread nD τ) (gRow c)

/-- What a completed transfer hands back: its destination at what was transferred, and a local copy's source. -/
def pay (c : Dev nD) : Kind → sProp 𝕄
  | .stage => iprop(emp)
  | .x => iprop(owns (c : Thread nD τ) xB fullShare (xin m c) ∗ owns (c : Thread nD τ) xA fullShare (xin m c))
  | .w q => iprop(owns (c : Thread nD τ) (wSq q) fullShare (wcol m c (pr c q))
      ∗ owns (c : Thread nD τ) (wCol (pr c q)) fullShare (wcol m c (pr c q)))
  | .o q => iprop(owns (c : Thread nD τ) (oRow (pr c q)) fullShare (outv m c q)
      ∗ owns (c : Thread nD τ) (tSq q) fullShare (outv m c q))
  | .s p => owns (c : Thread nD τ) (sSq p) fullShare (chunk m c (pr c (up p)))
  | .r p => owns (c : Thread nD τ) (gRow (pr c (up p))) fullShare (chunk m (pr c (up p)) c)

/-- The credit each kind of transfer brings. -/
def amt : Kind → ℕ
  | .stage => 1
  | .x => Nx
  | .w _ => Nw
  | .o _ => No
  | .s _ => Ng
  | .r _ => Ng

/-- Every kind of transfer brings a positive credit. -/
theorem amt_pos (k : Kind) : 0 < amt k := by
  cases k
  · exact Nat.one_pos
  · exact Nx_pos
  · exact Nw_pos
  · exact No_pos
  · exact Ng_pos
  · exact Ng_pos

instance held_storable (c : Thread nD τ) {sp : Space} {sh : Shape} {e : EltTy} (M : Memref sig c.2.kind sp sh e) :
    BI.Storable (upEmb : UEmb _ 𝕄) (held (F := F) c M) := by unfold held; infer_instance
instance barPay_storable (c : Dev nD) (p : Fin 7) : BI.Storable (upEmb : UEmb _ 𝕄) (barPay (F := F) c p) := by
  unfold barPay; infer_instance
instance pay_storable (c : Dev nD) (k : Kind) : BI.Storable (upEmb : UEmb _ 𝕄) (pay m c k) := by
  cases k <;> unfold pay <;> infer_instance

/-- The schedule: one round, at the TensorCores' counters. -/
def sched : Rounds.Schedule (GSem nD τ sig) (Fin 7) 𝕄 where
  duties g r := if r = 0 ∧ g.1.2 = .tc then (match g.2 with
    | .reg _ => Finset.univ
    | .dma s => if kindOf s = .stage then ∅ else {0}) else ∅
  unitless _ := False
  amount g _ _ := match g.2 with
    | .reg _ => 1
    | .dma s => amt (kindOf s)
  payload g _ d := match g.2 with
    | .reg _ => barPay g.1.1 d
    | .dma s => pay m g.1.1 (kindOf s)
  amount_pos g _ _ _ := by
    rcases g with ⟨t, s | s⟩
    · exact Nat.one_pos
    · exact amt_pos _

instance sched_storable (g : GSem nD τ sig) (r : ℕ) (d : Fin 7) :
    BI.Storable (upEmb : UEmb _ 𝕄) ((sched (F := F) m).payload g r d) := by
  rcases g with ⟨t, s | s⟩
  · exact barPay_storable t.1 d
  · exact pay_storable m t.1 (kindOf s)

section
variable (c : Dev nD)

/-- A barrier's one round has seven duties, one for each slot. -/
theorem duties_bar : (sched (F := F) m).duties (barCell c) 0 = Finset.univ := by
  dsimp only [sched]; rw [if_pos ⟨rfl, rfl⟩]
/-- The one round of a transfer counter of the kernel's own has one duty. -/
theorem duties_dma {s : DmaSem sig} (h : kindOf s ≠ .stage) : (sched (F := F) m).duties (dCell c s) 0 = {0} := by
  dsimp only [sched]; rw [if_pos ⟨rfl, rfl⟩, if_neg h]
/-- No cell has a duty in a later round. -/
theorem duties_later (g : GSem nD τ sig) : ∀ r, 1 ≤ r → (sched (F := F) m).duties g r = ∅ :=
  fun r hr => if_neg fun h => by omega
/-- A signal counts one. -/
theorem amount_bar (d : Fin 7) : (sched (F := F) m).amount (barCell c) 0 d = 1 := rfl
/-- A transfer counts the credit of its kind. -/
theorem amount_dma (s : DmaSem sig) (d : Fin 7) : (sched (F := F) m).amount (dCell c s) 0 d = amt (kindOf s) := rfl
/-- A signal hands over the partner's rows for this device's block. -/
theorem payload_bar (d : Fin 7) : (sched (F := F) m).payload (barCell c) 0 d = barPay c d := rfl
/-- A transfer hands over what its kind does. -/
theorem payload_dma (s : DmaSem sig) (d : Fin 7) : (sched (F := F) m).payload (dCell c s) 0 d = pay m c (kindOf s) := rfl

/-- A barrier expects seven. -/
theorem expect_bar : (sched (F := F) m).expect (barCell c) 0 = 7 := by
  unfold Schedule.expect Schedule.amountOf
  rw [duties_bar, Finset.sum_congr rfl fun d _ => amount_bar m c d]; decide
/-- A transfer counter of the kernel's own expects the credit of its kind. -/
theorem expect_dma {s : DmaSem sig} (h : kindOf s ≠ .stage) : (sched (F := F) m).expect (dCell c s) 0 = amt (kindOf s) := by
  unfold Schedule.expect Schedule.amountOf
  rw [duties_dma m c h, Finset.sum_singleton, amount_dma]

/-- A wait for all of a barrier yields the rows that all seven partners lend. -/
theorem rest_bar : bigSep ((sched (F := F) m).duties (barCell c) 0 \ ∅) (fun d => (sched (F := F) m).payload (barCell c) 0 d)
    = bigSep Finset.univ fun p : Fin 7 => barPay c p := by
  rw [Finset.sdiff_empty, duties_bar]; rfl
/-- A wait for a transfer yields what its kind hands over. -/
theorem rest_dma {s : DmaSem sig} (h : kindOf s ≠ .stage) :
    bigSep ((sched (F := F) m).duties (dCell c s) 0 \ ∅) (fun d => (sched (F := F) m).payload (dCell c s) 0 d)
      = pay m c (kindOf s) := by
  rw [Finset.sdiff_empty, duties_dma m c h, bigSep_singleton]; rfl

end

/-! ## Obligations -/

/-- The barrier signals device `c` still owes when `S` are the slots left, -/
def owedBar (c : Dev nD) (S : Finset (Fin 7)) : CellTallies nD τ sig Unit :=
  ∑ p ∈ S, tallyAt (barCell (pr c (up p))) () 1
/-- and the blocks it still owes its partners. -/
def owedRecv (c : Dev nD) (S : Finset (Fin 7)) : CellTallies nD τ sig Unit :=
  ∑ p ∈ S, tallyAt (dCell (pr c (up p)) (rS p)) () Ng

/-- What device `c` owes when the slots `B` are still to be signalled and the slots `S` still to be sent. -/
def owed (c : Dev nD) (B S : Finset (Fin 7)) : CellTallies nD τ sig Unit := owedBar c B + owedRecv c S

/-- What is owed with a signal left is what is owed without it, and the signal. -/
theorem owed_signal (c : Dev nD) (B S : Finset (Fin 7)) (p : Fin 7) (h : p ∈ B) :
    owed c B S = owed c (B.erase p) S + tallyAt (barCell (pr c (up p))) () 1 := by
  unfold owed owedBar
  rw [← Finset.sum_erase_add B _ h, add_right_comm]
/-- What is owed with a block left is what is owed without it, and the block. -/
theorem owed_send (c : Dev nD) (B S : Finset (Fin 7)) (p : Fin 7) (h : p ∈ S) :
    owed c B S = owed c B (S.erase p) + tallyAt (dCell (pr c (up p)) (rS p)) () Ng := by
  unfold owed owedRecv
  rw [← Finset.sum_erase_add S _ h, add_assoc]
/-- With nothing left to signal or to send, nothing is owed. -/
theorem owed_none (c : Dev nD) : owed c ∅ ∅ = 0 := by
  unfold owed owedBar owedRecv; rw [Finset.sum_empty, Finset.sum_empty, add_zero]

/-! ## Levels -/

/-- Receives come after the barrier, and the barrier after every local transfer. -/
def lv (g : GSem nD τ sig) (_ : Unit) : ℕ := match g.2 with
  | .reg _ => 1
  | .dma s => match kindOf s with
    | .r _ => 2
    | _ => 0
def L (g : GSem nD τ sig) : Finset Unit := if g.1.2 = .tc then {()} else ∅
/-- A cell that is not of a TensorCore has no level. -/
theorem L_of_ne (g : GSem nD τ sig) (h : g.1.2 ≠ .tc) : L g = ∅ := if_neg h
/-- A cell of a TensorCore has one level. -/
theorem L_tc (c : Dev nD) (sm : SemLoc sig) : L ((c : Thread nD τ), sm) = {()} := if_pos rfl

/-- A sum of tallies that is positive at a cell has a member that is positive there. -/
theorem sum_apply_pos {T : Finset (Fin 7)} {f : Fin 7 → CellTallies nD τ sig Unit} {g : GSem nD τ sig} {u : Unit}
    (h : 0 < (∑ p ∈ T, f p) g u) : ∃ p ∈ T, 0 < f p g u := by
  rw [Finset.sum_apply, Finsupp.finsetSum_apply] at h
  exact (Finset.sum_pos_iff.mp h)

/-- A tally at one cell is positive at no other. -/
theorem tally_pos {g g' : GSem nD τ sig} {u : Unit} {n : ℕ} (h : 0 < (tallyAt g () n : CellTallies nD τ sig Unit) g' u) : g' = g := by
  rw [tallyAt_apply] at h
  by_contra hn
  rw [if_neg fun h' => hn h'.1] at h
  exact Nat.lt_irrefl 0 h

/-- A cell device `c` owes is a partner's barrier, if a signal is left, or a partner's receive. -/
theorem owed_pos {c : Dev nD} {B S : Finset (Fin 7)} {g : GSem nD τ sig} {u : Unit} (h : 0 < owed c B S g u) :
    (B.Nonempty ∧ ∃ d : Dev nD, g = barCell d) ∨ ∃ (d : Dev nD) (p : Fin 7), g = dCell d (rS p) := by
  unfold owed at h
  rw [Pi.add_apply, Finsupp.add_apply] at h
  rcases Nat.eq_zero_or_pos (owedBar c B g u) with h0 | h0
  · rw [h0, Nat.zero_add] at h
    obtain ⟨p, -, hp⟩ := sum_apply_pos h
    exact Or.inr ⟨_, p, tally_pos hp⟩
  · obtain ⟨p, hp, hp'⟩ := sum_apply_pos h0
    exact Or.inl ⟨⟨p, hp⟩, _, tally_pos hp'⟩

/-- A barrier has level 1. -/
theorem lv_bar (c : Dev nD) (u : Unit) : lv (barCell c) u = 1 := rfl
/-- A receive counter has level 2. -/
theorem lv_recv (c : Dev nD) (p : Fin 7) (u : Unit) : lv (dCell c (rS p)) u = 2 := by
  show (match kindOf (rS p) with | .r _ => 2 | _ => 0) = 2
  rw [kind_r]

/-- A local transfer may be waited for whatever the device owes; -/
theorem mayWait_local (c : Dev nD) (s : DmaSem sig) (hs : lv (dCell c s) () = 0) (B S : Finset (Fin 7)) :
    (levAts L lv : sProp 𝕄) ⊢ MayWait (c : Thread nD τ) (.dma s) () (owed c B S) :=
  MayOwe.of_cut (L := L) (lev := lv) 0
    (fun p hp => by rw [Finset.mem_singleton.mp hp, L_tc]; exact Finset.mem_singleton_self _)
    (fun g u hg => by
      rcases owed_pos hg with ⟨-, d, rfl⟩ | ⟨d, p, rfl⟩ <;> exact Finset.mem_singleton_self _)
    (fun p hp => by rw [Finset.mem_singleton.mp hp]; exact le_of_eq hs)
    (fun g u hg => by
      rcases owed_pos hg with ⟨-, d, rfl⟩ | ⟨d, p, rfl⟩
      · rw [lv_bar]; decide
      · rw [lv_recv]; decide)

/-- the barrier once every signal has been sent; -/
theorem mayWait_bar (c : Dev nD) (S : Finset (Fin 7)) :
    (levAts L lv : sProp 𝕄) ⊢ MayWait (c : Thread nD τ) (.reg barS) () (owed c ∅ S) :=
  MayOwe.of_cut (L := L) (lev := lv) 1
    (fun p hp => by rw [Finset.mem_singleton.mp hp, L_tc]; exact Finset.mem_singleton_self _)
    (fun g u hg => by
      rcases owed_pos hg with ⟨-, d, rfl⟩ | ⟨d, p, rfl⟩ <;> exact Finset.mem_singleton_self _)
    (fun p hp => by rw [Finset.mem_singleton.mp hp]; exact le_of_eq (lv_bar c ()))
    (fun g u hg => by
      rcases owed_pos hg with ⟨⟨x, hx⟩, -⟩ | ⟨d, p, rfl⟩
      · exact absurd hx (Finset.notMem_empty x)
      · rw [lv_recv]; decide)

/-- and anything once nothing is owed. -/
theorem mayWait_none (c : Dev nD) (sm : SemLoc sig) :
    (levAts L lv : sProp 𝕄) ⊢ MayWait (c : Thread nD τ) sm () (owed c ∅ ∅) := by
  rw [owed_none, MayWait_zero]; iintro -; iempintro

end Cert.Scatter

end
-- ==== Proof.Own.lean ====
/-
# Steps through owned memory references

A load, a store, a local transfer and a transfer to another device, each stated over references owned at known
contents. Nothing here depends on the kernel but the names of its types.
-/
module

public import proofs.«01_k».proof.Proof.Proto

@[expose] public section

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ
/-- The kernel's programs. -/
abbrev Pr (F : FTy → Type) (α : Type) : Type 1 := Prog (TpuEff nD τ sig (Elt F) Λ₀ .tc) α

/-- Device `c` runs program `P` and ends with `Q`. -/
abbrev Runs (c : Dev nD) {α : Type} (P : Pr F α) (Q : α → sProp 𝕄) : sProp 𝕄 :=
  wp frame (wpE (defs₀ (F := F)) 𝒱₀ (c : Thread nD τ) none) Set.univ P Q

variable (c : Dev nD) {α : Type}

/-- A reference owned at `X`: some contents of its buffer it reads as `X`. -/
theorem owns_elim (t : Thread nD τ) {sp : Space} {sh : Shape} {e : EltTy} (M : Memref sig t.2.kind sp sh e)
    (q : PosShare TreeShare) (X : sh.Idx → Elt F e) :
    (owns t M q X : sProp 𝕄) ⊢ iprop(∃ f, ⌜M.view.read (Elt F) f = X⌝ ∗ (M.view.loc t ↦[M.view.set]{q} f)) := by
  unfold owns; exact BI.Entails.refl _

/-- A reference read through another row order of the same elements is owned at the reordered contents. -/
theorem owns_squeeze (t : Thread nD τ) {sp : Space} {sh : Shape} {e : EltTy} (M : Memref sig t.2.kind sp sh e)
    (s' : Shape) (h : sh.Squeezes s') (q : PosShare TreeShare) (X : sh.Idx → Elt F e) :
    (owns t (M.squeeze s' h) q (fun j => X (Shape.reshapeEquiv h.numel_eq j)) : sProp 𝕄) = owns t M q X := by
  have hs : (M.squeeze s' h).view.set = M.view.set := View.set_reshape ..
  have hr : ∀ f, (M.squeeze s' h).view.read (Elt F) f = fun j => M.view.read (Elt F) f (Shape.reshapeEquiv h.numel_eq j) :=
    fun _ => rfl
  unfold owns
  have h₁ : iprop(∃ f, ⌜(M.squeeze s' h).view.read (Elt F) f = fun j => X (Shape.reshapeEquiv h.numel_eq j)⌝
        ∗ ((M.squeeze s' h).view.loc t ↦[(M.squeeze s' h).view.set]{q} f))
      ⊢ (iprop(∃ f, ⌜M.view.read (Elt F) f = X⌝ ∗ (M.view.loc t ↦[M.view.set]{q} f)) : sProp 𝕄) := by
    iintro ⟨%f, %hf, H⟩
    iexists f
    isplitr
    · ipureintro
      funext i
      have := congrFun ((hr f).symm.trans hf) ((Shape.reshapeEquiv h.numel_eq).symm i)
      simpa only [Equiv.apply_symm_apply] using this
    · rw [hs]; iexact H
  have h₂ : (iprop(∃ f, ⌜M.view.read (Elt F) f = X⌝ ∗ (M.view.loc t ↦[M.view.set]{q} f)) : sProp 𝕄)
      ⊢ iprop(∃ f, ⌜(M.squeeze s' h).view.read (Elt F) f = fun j => X (Shape.reshapeEquiv h.numel_eq j)⌝
        ∗ ((M.squeeze s' h).view.loc t ↦[(M.squeeze s' h).view.set]{q} f)) := by
    iintro ⟨%f, %hf, H⟩
    iexists f
    isplitr
    · ipureintro; rw [hr, hf]
    · rw [hs]; iexact H
  exact BI.equiv_iff.mp ⟨h₁, h₂⟩

/-- The elements of a reference at contents it reads as `X` are it, owned at `X`. -/
theorem owns_of_read (t : Thread nD τ) {sp : Space} {sh : Shape} {e : EltTy} (M : Memref sig t.2.kind sp sh e)
    (q : PosShare TreeShare) (f : M.view.ty.Contents (Elt F)) {X : sh.Idx → Elt F e} (h : M.view.read (Elt F) f = X) :
    (M.view.loc t ↦[M.view.set]{q} f : sProp 𝕄) ⊢ owns t M q X := by
  subst h; exact owns_intro t M q f

/-- Loading a rectangle of a buffer whose slice there is owned at `X` reads `X`. -/
theorem runs_load {Q : α → sProp 𝕄} {cs : CoreSpace} {s : Shape} {e : EltTy} {M : Memref sig .tc cs s e} {r : Rect s}
    (hr : ∀ a, r.stride a = 1) {hl : M.view.LoadsAt r.toLoadRect}
    {k : (r.shape.Idx → Elt F e) → Pr F α} {q : PosShare TreeShare} (X : r.shape.Idx → Elt F e) :
    (owns (c : Thread nD τ) (M.slice r hr) q X : sProp 𝕄)
      ⊢ iprop((owns (c : Thread nD τ) (M.slice r hr) q X -∗ Runs c (k X) Q)
          -∗ Runs c (.op (.load M r.toLoadRect hl) k) Q) := by
  iintro H Hk
  have eH := owns_elim (c : Thread nD τ) (M.slice r hr) q X
  ihave H := eH $$ H
  icases H with ⟨%f, %hf, H⟩
  iapply (wp_load_rect 𝒱₀ (c : Thread nD τ) none Set.univ (m := M) (r := r) (S := (M.slice r hr).view.set)
    (q := q) (f := f) (Finset.Subset.refl _)) $$ H
  iintro H
  rw [show (M.access r).read (Elt F) f = X from hf]
  iapply Hk
  rw [← hf]
  iapply (owns_intro (c : Thread nD τ) (M.slice r hr) q f); iexact H

/-- Storing a whole rectangle of a buffer whose slice there is owned leaves it owned at what was stored. -/
theorem runs_store {Q : α → sProp 𝕄} {cs : CoreSpace} {s : Shape} {e : EltTy} {M : Memref sig .tc cs s e} {r : Rect s}
    (hr : ∀ a, r.stride a = 1) {w : r.shape.Idx → Elt F e} {hx : (M.access r).Stores Finset.univ}
    {hm : (Finset.univ : Finset r.shape.Idx) = Finset.univ ∨ ∀ a, r.stride a = 1} {k : PUnit → Pr F α} (X : r.shape.Idx → Elt F e) :
    (owns (c : Thread nD τ) (M.slice r hr) fullShare X : sProp 𝕄)
      ⊢ iprop((owns (c : Thread nD τ) (M.slice r hr) fullShare w -∗ Runs c (k ⟨⟩) Q)
          -∗ Runs c (.op (.store M r w Finset.univ hx hm) k) Q) := by
  iintro H Hk
  have eH := owns_elim (c : Thread nD τ) (M.slice r hr) fullShare X
  ihave H := eH $$ H
  icases H with ⟨%f, -, H⟩
  iapply (wp_store 𝒱₀ (c : Thread nD τ) none Set.univ (m := M) (r := r) (Mk := Finset.univ)
    (S := (M.slice r hr).view.set) (f := f) (Finset.Subset.refl _)) $$ H
  iintro H
  iapply Hk
  have hw : (M.slice r hr).view.read (Elt F) ((M.access r).write (Elt F) f w Finset.univ) = w :=
    View.read_write_univ ..
  rw [← hw]
  iapply (owns_intro (c : Thread nD τ) (M.slice r hr) fullShare _)
  rw [hw]; iexact H

/-- A local transfer from a reference owned at `X` into one held, paying its counter's duty with both ends. -/
theorem runs_copy
    (Rd : Rounds.Schedule (GSem nD τ sig) (Fin 7) 𝕄) [∀ g r d, BI.Storable (upEmb : UEmb _ 𝕄) (Rd.payload g r d)]
    {Q : α → sProp 𝕄} {sp sp' : Space} {s : Shape} {e : EltTy} {src : Memref sig .tc sp s e} {dst : Memref sig .tc sp' s e}
    {sem : SemLoc sig} {hsrc : src.view.WordExact} {hdst : dst.view.WordExact}
    {hsem : DmaTarget.Typed (nD := nD) sp sem (.here (p := Proc.tc) dst)} {k : PUnit → Pr F α} {κ : ℕ} {d : Fin 7}
    (X Y : s.Idx → Elt F e) (hd : d ∈ Rd.duties ((c : Thread nD τ), sem) 0) (N : ℕ)
    (hN : dst.view.amount sem = N) (hk : Rd.amount ((c : Thread nD τ), sem) 0 d = N)
    (hpay : iprop(owns (c : Thread nD τ) dst fullShare X ∗ owns (c : Thread nD τ) src fullShare X)
      ⊢ Rd.payload ((c : Thread nD τ), sem) 0 d) :
    iprop(cellInv ER Rd κ ((c : Thread nD τ), sem) ∗ owns (c : Thread nD τ) src fullShare X
        ∗ owns (c : Thread nD τ) dst fullShare Y ∗ dutyTok ER ((c : Thread nD τ), sem) 0 d ∗ reached ER ((c : Thread nD τ), sem) 0)
      ⊢ iprop((cred (tallyAt ((c : Thread nD τ), sem) () N) -∗ Runs c (k ⟨⟩) Q)
          -∗ Runs c (.op (.enqueueDma src (.here dst) sem hsrc hdst hsem) k) Q) := by
  iintro ⟨#Hi, Hs, Hd, Ht, #Hr⟩ Hk
  have eHs := owns_elim (F := F) (c : Thread nD τ) src fullShare X
  ihave Hs := eHs $$ Hs
  icases Hs with ⟨%fs, %hfs, Hs⟩
  have eHd := owns_elim (c : Thread nD τ) dst fullShare Y
  ihave Hd := eHd $$ Hd
  icases Hd with ⟨%fd, -, Hd⟩
  have hp : iprop((dst.view.loc (c : Thread nD τ) ↦[dst.view.set]{fullShare}
        (dst.view.write (Elt F) fd (src.view.read (Elt F) fs) Finset.univ))
      ∗ (src.view.loc (c : Thread nD τ) ↦[src.view.set]{fullShare} fs)) ⊢ Rd.payload ((c : Thread nD τ), sem) 0 d :=
    (BI.sep_mono (owns_of_read (c : Thread nD τ) dst fullShare _ ((View.read_write_univ ..).trans hfs))
      (owns_of_read (c : Thread nD τ) src fullShare _ hfs)).trans hpay
  iapply (Rounds.wp_copy_pointsTo 𝒱₀ ER Rd (c : Thread nD τ) none (κ := κ) (r := 0) (d := d) hd () N hN hk
    (fs := fs) (fd := fd) (q := fullShare) hp) $$ [Hs Hd Ht]
  · isplitr; · iexact Hi
    isplitl [Hs]; · iexact Hs
    isplitl [Hd]; · iexact Hd
    isplitl [Ht]; · iexact Ht
    iexact Hr
  iexact Hk

/-- A transfer of a reference owned at `X` to a reference held at another device: the sender's counter hands back
    the source, the receiver's the destination at `X`. -/
theorem runs_send
    (Rd : Rounds.Schedule (GSem nD τ sig) (Fin 7) 𝕄) [∀ g r d, BI.Storable (upEmb : UEmb _ 𝕄) (Rd.payload g r d)]
    {Q : α → sProp 𝕄} {c' : Dev nD} {sp sp' : Space} {s : Shape} {e : EltTy} {src : Memref sig .tc sp s e}
    {dst : Memref sig .tc sp' s e} {hsc : dst.view.ref.isScScratch = false} {sS sem : SemLoc sig}
    {hsrc : src.view.WordExact} {hdst : dst.view.WordExact}
    {hsem : DmaTarget.Typed (p := Proc.tc) sp sem (.remote (p := Proc.tc) (c' : Thread nD τ) dst sS hsc)} {k : PUnit → Pr F α} {κ₁ κ₂ : ℕ} {d₁ d₂ : Fin 7}
    (X Y : s.Idx → Elt F e)
    (hd₁ : d₁ ∈ Rd.duties ((c : Thread nD τ), sS) 0) (hd₂ : d₂ ∈ Rd.duties ((c' : Thread nD τ), sem) 0) (N : ℕ)
    (hN : dst.view.amount sem = N) (hk₁ : Rd.amount ((c : Thread nD τ), sS) 0 d₁ = N)
    (hk₂ : Rd.amount ((c' : Thread nD τ), sem) 0 d₂ = N) {O₀ : CellTallies nD τ sig Unit} (O : CellTallies nD τ sig Unit)
    (hO : O₀ = O + tallyAt ((c' : Thread nD τ), sem) () N) {W : Waits sig Unit}
    (hpay₁ : (owns (c : Thread nD τ) src fullShare X : sProp 𝕄) ⊢ Rd.payload ((c : Thread nD τ), sS) 0 d₁)
    (hpay₂ : (owns (c' : Thread nD τ) dst fullShare X : sProp 𝕄) ⊢ Rd.payload ((c' : Thread nD τ), sem) 0 d₂) :
    iprop(cellInv ER Rd κ₁ ((c : Thread nD τ), sS) ∗ cellInv ER Rd κ₂ ((c' : Thread nD τ), sem)
        ∗ owns (c : Thread nD τ) src fullShare X ∗ owns (c' : Thread nD τ) dst fullShare Y ∗ owes (c : Thread nD τ) O₀ W
        ∗ dutyTok ER ((c : Thread nD τ), sS) 0 d₁ ∗ reached ER ((c : Thread nD τ), sS) 0
        ∗ dutyTok ER ((c' : Thread nD τ), sem) 0 d₂ ∗ reached ER ((c' : Thread nD τ), sem) 0)
      ⊢ iprop(((cred (tallyAt ((c : Thread nD τ), sS) () N) ∗ owes (c : Thread nD τ) O W) -∗ Runs c (k ⟨⟩) Q)
          -∗ Runs c (.op (.enqueueDma src (.remote (c' : Thread nD τ) dst sS hsc) sem hsrc hdst hsem) k) Q) := by
  iintro ⟨#Hi, #Hi', Hs, Hd, HO, Ht, #Hr, Ht', #Hr'⟩ Hk
  have eHs := owns_elim (F := F) (c : Thread nD τ) src fullShare X
  ihave Hs := eHs $$ Hs
  icases Hs with ⟨%fs, %hfs, Hs⟩
  have eHd := owns_elim (c' : Thread nD τ) dst fullShare Y
  ihave Hd := eHd $$ Hd
  icases Hd with ⟨%fd, -, Hd⟩
  iapply (Rounds.wp_send_pointsTo 𝒱₀ ER Rd (c : Thread nD τ) none (κ₁ := κ₁) (κ₂ := κ₂) (r₁ := 0) (r₂ := 0)
    (d₁ := d₁) (d₂ := d₂) (fs := fs) (fd := fd) (q := fullShare) hd₁ hd₂ () () N hN hk₁ hk₂ O hO (W := W)
    ((owns_of_read (c : Thread nD τ) src fullShare _ hfs).trans hpay₁)
    ((owns_of_read (c' : Thread nD τ) dst fullShare _ ((View.read_write_univ ..).trans hfs)).trans hpay₂))
    $$ [Hs Hd HO Ht Ht']
  · isplitr; · iexact Hi
    isplitr; · iexact Hi'
    isplitl [Hs]; · iexact Hs
    isplitl [Hd]; · iexact Hd
    isplitl [HO]; · iexact HO
    isplitl [Ht]; · iexact Ht
    isplitr; · iexact Hr
    isplitl [Ht']; · iexact Ht'
    iexact Hr'
  iexact Hk

end Cert.Scatter

end
-- ==== Proof.Steps.lean ====
/-
# The kernel's steps, each at any slot

What a device holds of one of its counters before, during and after a transfer, and one lemma per kind of step:
a barrier signal, a copy into a staging slot, the computation of a block, a send, a receive, a copy out and each
kind of wait. The lemmas are stated at a slot and used at every slot.
-/
module

public import proofs.«01_k».proof.Proof.Sched
public import proofs.«01_k».proof.Proof.Own

@[expose] public section

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What every device knows -/

/-- A cell follows the schedule and its round is open. -/
def kn (g : GSem nD τ sig) : sProp 𝕄 := iprop((∃ κ, cellInv ER (sched (F := F) m) κ g) ∗ reached ER g 0)
instance kn_persistent (g : GSem nD τ sig) : BI.Persistent (kn (F := F) m g) := by unfold kn; infer_instance

/-- The transfer counters of the kernel's own, numbered. -/
def usem (s : Fin 31) : DmaSem sig := ⟨2 + s.val, by have := s.isLt; show _ < 33; omega⟩

/-- Every device knows that every cell follows the schedule, and the levels of the cells. -/
def known : sProp 𝕄 :=
  iprop(levAts L lv ∗ BI.bigSep Finset.univ fun d : Dev nD =>
    iprop(kn m (barCell d) ∗ BI.bigSep Finset.univ fun s : Fin 31 => kn m (dCell d (usem s))))
instance known_persistent : BI.Persistent (known (F := F) m) := by unfold known; infer_instance

/-- One member of a family held together. -/
theorem pick {I : Type} [DecidableEq I] {T : Finset I} {i : I} (h : i ∈ T) {Φ : I → sProp 𝕄} :
    (BI.bigSep T Φ : sProp 𝕄) ⊢ Φ i := bigSep_elim h

/-- Every device knows the levels. -/
theorem known_lev : (known (F := F) m) ⊢ levAts L lv := by
  unfold known; iintro ⟨H, -⟩; iexact H
/-- Every device knows that each barrier follows the schedule. -/
theorem known_bar (d : Dev nD) : (known (F := F) m) ⊢ kn m (barCell d) := by
  unfold known
  iintro ⟨-, H⟩
  ihave H := (pick (Finset.mem_univ d)) $$ H
  icases H with ⟨H, -⟩
  iexact H
/-- Every device knows that each transfer counter of the kernel's own follows the schedule. -/
theorem known_dma (d : Dev nD) {s : DmaSem sig} (h : kindOf s ≠ .stage) : (known (F := F) m) ⊢ kn m (dCell d s) := by
  have h2 : 2 ≤ s.val := by
    by_contra hn; exact h (if_pos (by omega))
  have hs : s = usem ⟨s.val - 2, by have := s.isLt; change s.val < 33 at this; omega⟩ := by
    unfold usem; exact Fin.ext (by dsimp only; omega)
  unfold known
  iintro ⟨-, H⟩
  ihave H := (pick (Finset.mem_univ d)) $$ H
  icases H with ⟨-, H⟩
  ihave H := (pick (Finset.mem_univ (⟨s.val - 2, by have := s.isLt; change s.val < 33 at this; omega⟩ : Fin 31))) $$ H
  rw [← hs]
  iexact H

/-! ## What a device holds of a counter -/

variable (c : Dev nD)

/-- A counter of device `c` whose transfer has not been started, -/
def fresh (s : DmaSem sig) : sProp 𝕄 := iprop(atPos ER (dCell c s) 0 ∅ 0 ∗ dutyTok ER (dCell c s) 0 0)
/-- and one whose transfer is under way. -/
def fly (s : DmaSem sig) : sProp 𝕄 := iprop(atPos ER (dCell c s) 0 ∅ 0 ∗ cred (tallyAt (dCell c s) () (amt (kindOf s))))
/-- The device owes signals to the slots `B` and blocks to the slots `S`. -/
def owing (B S : Finset (Fin 7)) : sProp 𝕄 := iprop(∃ W, owes (c : Thread nD τ) (owed c B S) W)

variable {α : Type}

/-- Waiting for a transfer's counter: it ends at zero and hands over what the transfer delivered. -/
theorem runs_wait {Q : α → sProp 𝕄} (s : DmaSem sig) (kd : Kind) (hk : kindOf s = kd) (hne : kd ≠ .stage)
    {sp sp' : Space} {sh sh' : Shape} {e e' : EltTy} {src : Memref sig .tc sp' sh' e'} {dst : Memref sig .tc sp sh e}
    {hsrc : src.view.WordExact} {hdst : dst.view.WordExact} {k : PUnit → Pr F α} (B S : Finset (Fin 7))
    (hN : dst.view.dmaCredit = amt kd)
    (hmay : (levAts L lv : sProp 𝕄) ⊢ MayWait (c : Thread nD τ) (.dma s) () (owed c B S)) :
    iprop(known m ∗ fly c s ∗ owing c B S)
      ⊢ iprop(((owing c B S ∗ semVal (dCell c s) 0 ∗ pay m c kd) -∗ Runs c (k ⟨⟩) Q)
          -∗ Runs c (.op (.waitDma2 s src dst hsrc hdst) k) Q) := by
  subst hk
  unfold fly owing
  iintro ⟨#Hkn, ⟨Hat, Hc⟩, ⟨%W, HO⟩⟩ Hk
  ihave #Hcell := (known_dma m c hne) $$ Hkn
  ihave #Hlev := (known_lev m) $$ Hkn
  unfold kn
  icases Hcell with ⟨⟨%κ, #Hinv⟩, -⟩
  iapply (Rounds.wp_wait_rest_token 𝒱₀ ER (sched (F := F) m) (c : Thread nD τ) none (κ := κ)
      (wpE_waitDma2_eq 𝒱₀ (c : Thread nD τ) none Set.univ) (Set.mem_univ _) () (O := owed c B S) (W := W) (R := 0) (m := 0) (T := ∅)
      (by rw [Nat.zero_add, expect_dma m c hne, hN])) $$ [Hc HO Hat]
  · isplitr; · iexact Hinv
    isplitl [Hc]; · rw [hN]; iexact Hc
    isplitl [HO]; · iexact HO
    isplitr; · iapply hmay; iexact Hlev
    iexact Hat
  iintro ⟨HO, Hat, -, Hpay⟩
  imod (Rounds.cell_close ER (sched (F := F) m) (Set.mem_univ κ) (fun h => h) (R := 0 + 1) (duties_later m (dCell c s))) $$ [Hat] with Hz
  · isplitr; · iexact Hinv
    iexact Hat
  ihave Hp := (Entails.of_eq (rest_dma m c hne)) $$ Hpay
  iapply Hk
  isplitl [HO]; · iexists _; iexact HO
  isplitl [Hz]; · iexact Hz
  iexact Hp

/-- Starting a local transfer whose counter delivers both ends. -/
theorem runs_start {Q : α → sProp 𝕄} (s : DmaSem sig) (kd : Kind) (hk : kindOf s = kd) (hne : kd ≠ .stage)
    {sp sp' : Space} {sh : Shape} {e : EltTy} {src : Memref sig .tc sp sh e} {dst : Memref sig .tc sp' sh e}
    {hsrc : src.view.WordExact} {hdst : dst.view.WordExact}
    {hsem : DmaTarget.Typed (nD := nD) sp (.dma s) (.here (p := Proc.tc) dst)} {k : PUnit → Pr F α}
    (X : sh.Idx → Elt F e) (hN : dst.view.dmaCredit = amt kd)
    (hpay : iprop(owns (c : Thread nD τ) dst fullShare X ∗ owns (c : Thread nD τ) src fullShare X) = pay m c kd) :
    iprop(known m ∗ owns (c : Thread nD τ) src fullShare X ∗ held (c : Thread nD τ) dst ∗ fresh c s)
      ⊢ iprop((fly c s -∗ Runs c (k ⟨⟩) Q)
          -∗ Runs c (.op (.enqueueDma src (.here dst) (.dma s) hsrc hdst hsem) k) Q) := by
  subst hk
  unfold fresh fly held
  iintro ⟨#Hkn, Hs, ⟨%Y, Hd⟩, ⟨Hat, Ht⟩⟩ Hk
  ihave #Hcell := (known_dma m c hne) $$ Hkn
  unfold kn
  icases Hcell with ⟨⟨%κ, #Hinv⟩, #Hr⟩
  iapply (runs_copy c (sched (F := F) m) (src := src) (dst := dst) (sem := .dma s) (κ := κ) (d := 0) X Y (by rw [duties_dma m c hne]; exact Finset.mem_singleton_self _)
      (amt (kindOf s)) hN (amount_dma m c s 0) (by rw [payload_dma, hpay])) $$ [Hs Hd Ht]
  · isplitr; · iexact Hinv
    isplitl [Hs]; · iexact Hs
    isplitl [Hd]; · iexact Hd
    isplitl [Ht]; · iexact Ht
    iexact Hr
  iintro Hc
  iapply Hk
  isplitl [Hat]; · iexact Hat
  iexact Hc

/-! ## Barrier -/

/-- A barrier signal to the partner at slot `p` gives it the rows of the receive buffer its block goes to. -/
theorem runs_signal {Q : α → sProp 𝕄} (p : Fin 7) {n : Dev nD} (hn : n = pr c (up p)) {k' : ℕ} (hk' : k' = 1)
    {k : PUnit → Pr F α} {B S : Finset (Fin 7)} (hp : p ∈ B) :
    iprop(known m ∗ owing c B S ∗ dutyTok ER (barCell (pr c (up p))) 0 p ∗ held (c : Thread nD τ) (gRow (pr c (up p))))
      ⊢ iprop((owing c (B.erase p) S -∗ Runs c (k ⟨⟩) Q) -∗ Runs c (.op (.semSignal (n, .tc) barS k') k) Q) := by
  subst hn hk'
  unfold owing
  iintro ⟨#Hkn, ⟨%W, HO⟩, Ht, Hg⟩ Hk
  ihave #Hcell := (known_bar m (pr c (up p))) $$ Hkn
  unfold kn
  icases Hcell with ⟨⟨%κ, #Hinv⟩, #Hr⟩
  iapply (Rounds.wp_signal 𝒱₀ ER (sched (F := F) m) (c : Thread nD τ) none (dst := (pr c (up p) : Thread nD τ)) (κ := κ) (r := 0) (d := p)
      (by rw [duties_bar]; exact Finset.mem_univ _) (amount_bar m (pr c (up p)) p) () (owed c (B.erase p) S)
      (owed_signal c B S p hp)) $$ [HO Ht Hg]
  · isplitr; · iexact Hinv
    isplitl [HO]; · iexact HO
    isplitl [Ht]; · iexact Ht
    isplitl [Hg]
    · rw [payload_bar]; unfold barPay; rw [pr_pr]; iexact Hg
    iexact Hr
  iintro HO
  iapply Hk
  iexists W; iexact HO

/-- The barrier wait: every partner has lent the rows the device's blocks go to. -/
theorem runs_barrier {Q : α → sProp 𝕄} {k' : ℕ} (hk' : k' = 7) {k : PUnit → Pr F α} (S : Finset (Fin 7)) :
    iprop(known m ∗ owing c ∅ S ∗ atPos ER (barCell c) 0 ∅ 0 ∗ cred (tallyAt (barCell c) () 7))
      ⊢ iprop(((owing c ∅ S ∗ semVal (barCell c) 0 ∗ BI.bigSep Finset.univ fun p : Fin 7 => barPay c p) -∗ Runs c (k ⟨⟩) Q)
        -∗ Runs c (.op (.semWait barS k') k) Q) := by
  subst hk'
  unfold owing
  iintro ⟨#Hkn, ⟨%W, HO⟩, Hat, Hc⟩ Hk
  ihave #Hcell := (known_bar m c) $$ Hkn
  ihave #Hlev := (known_lev m) $$ Hkn
  unfold kn
  icases Hcell with ⟨⟨%κ, #Hinv⟩, -⟩
  iapply (Rounds.wp_wait_rest_token 𝒱₀ ER (sched (F := F) m) (c : Thread nD τ) none (κ := κ)
      (wpE_semWait_eq 𝒱₀ (c : Thread nD τ) none Set.univ) (Set.mem_univ _) () (O := owed c ∅ S) (W := W) (R := 0) (m := 0) (T := ∅)
      (by rw [expect_bar])) $$ [Hc HO Hat]
  · isplitr; · iexact Hinv
    isplitl [Hc]; · iexact Hc
    isplitl [HO]; · iexact HO
    isplitr; · iapply (mayWait_bar c S); iexact Hlev
    iexact Hat
  iintro ⟨HO, Hat, -, Hpay⟩
  imod (Rounds.cell_close ER (sched (F := F) m) (Set.mem_univ κ) (fun h => h) (R := 0 + 1) (duties_later m (barCell c))) $$ [Hat] with Hz
  · isplitr; · iexact Hinv
    iexact Hat
  ihave Hp := (Entails.of_eq (rest_bar m c)) $$ Hpay
  iapply Hk
  isplitl [HO]; · iexists _; iexact HO
  isplitl [Hz]; · iexact Hz
  iexact Hp

end Cert.Scatter

end
-- ==== Proof.Slots.lean ====
/-
# The kernel's transfers, each at any slot

The resources of a slot of the weights, of the send buffer, of the receive buffer and of the output buffer, and the
steps that take each of them from one stage of its use to the next.
-/
module

public import proofs.«01_k».proof.Proof.Steps

@[expose] public section

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD) {α : Type}

/-! ## The credit of a transfer is the length of its destination, at every slot -/

/-- The copy of `x` brings the credit of its kind. -/
theorem credit_x : xB.view.dmaCredit = amt .x := by show _ = Nx; unfold Nx; rfl
/-- A copy of columns of `w` brings the credit of its kind. -/
theorem credit_w (q : Fin 8) : (wSq q).view.dmaCredit = amt (.w q) := by show _ = Nw; unfold Nw; rfl
/-- A copy out brings the credit of its kind. -/
theorem credit_o (q : Fin 8) (d : Dev nD) : (oRow d).view.dmaCredit = amt (.o q) := by show _ = No; unfold No; rfl
/-- A send brings the credit of its kind. -/
theorem credit_s (p : Fin 7) : (sSq p).view.dmaCredit = amt (.s p) := by show _ = Ng; unfold Ng; rfl
/-- A receive brings the credit of its kind. -/
theorem credit_r (p : Fin 7) (d : Dev nD) : (gRow d).view.dmaCredit = amt (.r p) := by show _ = Ng; unfold Ng; rfl

/-- The counter of the copy of `x` has level 0. -/
theorem lv_x (u : Unit) : lv (dCell c xS) u = 0 := by
  show (match kindOf xS with | .r _ => 2 | _ => 0) = 0
  rw [kind_x]
/-- The counter of a copy of `w` has level 0. -/
theorem lv_w (q : Fin 8) (u : Unit) : lv (dCell c (wS q)) u = 0 := by
  show (match kindOf (wS q) with | .r _ => 2 | _ => 0) = 0
  rw [kind_w]

/-! ## What each transfer returns -/

/-- The completed copy of `x` hands back the buffer with the device's rows, and the rows themselves. -/
theorem pay_x : pay m c .x = (iprop(owns (c : Thread nD τ) xB fullShare (xin m c) ∗ owns (c : Thread nD τ) xA fullShare (xin m c)) : sProp 𝕄) := rfl
/-- A completed copy of `w` hands back the slot with the partner's columns, and the columns themselves. -/
theorem pay_w (q : Fin 8) : pay m c (.w q) = (iprop(owns (c : Thread nD τ) (wSq q) fullShare (wcol m c (pr c q))
    ∗ owns (c : Thread nD τ) (wCol (pr c q)) fullShare (wcol m c (pr c q))) : sProp 𝕄) := rfl
/-- A completed receive hands over the partner's rows of the receive buffer with the block the partner computed. -/
theorem pay_r (p : Fin 7) : pay m c (.r p)
    = (owns (c : Thread nD τ) (gRow (pr c (up p))) fullShare (chunk m (pr c (up p)) c) : sProp 𝕄) := rfl

/-! ## The input rows -/

/-- Starting the copy of the device's rows of `x`, -/
theorem runs_xcopy {Q : α → sProp 𝕄} {hsrc : xA.view.WordExact} {hdst : xB.view.WordExact}
    {hsem : DmaTarget.Typed (nD := nD) .hbm (.dma xS) (.here (p := Proc.tc) xB)} {k : PUnit → Pr F α} :
    iprop(known m ∗ owns (c : Thread nD τ) xA fullShare (xin m c) ∗ held (c : Thread nD τ) xB ∗ fresh c xS)
      ⊢ iprop((fly c xS -∗ Runs c (k ⟨⟩) Q) -∗ Runs c (.op (.enqueueDma xA (.here xB) (.dma xS) hsrc hdst hsem) k) Q) :=
  runs_start m c xS .x kind_x (by decide) (xin m c) credit_x rfl

/-- and waiting for it and reading them. -/
theorem runs_xwait {Q : α → sProp 𝕄} {hsrc : xA.view.WordExact} {hdst : xB.view.WordExact} {h : ∀ a, (![0, 0] : Fin 2 → ℕ) a + S512x4096.size a ≤ S512x4096.size a}
    {hl : xB.view.LoadsAt (Rect.unit (s := S512x4096) ![0, 0] S512x4096.size h).toLoadRect}
    {k : (S512x4096.Idx → Elt F .f32) → Pr F α} (B S : Finset (Fin 7)) :
    iprop(known m ∗ fly c xS ∗ owing c B S)
      ⊢ iprop(((owing c B S ∗ semVal (dCell c xS) 0 ∗ pay m c .x) -∗ Runs c (k (xin m c)) Q)
          -∗ Runs c (.op (.waitDma2 xS xA xB hsrc hdst) fun _ =>
              .op (.load xB (Rect.unit (s := S512x4096) ![0, 0] S512x4096.size h).toLoadRect hl) k) Q) := by
  iintro ⟨#Hkn, Hf, HO⟩ Hk
  iapply (runs_wait m c xS .x kind_x (by decide) B S credit_x (mayWait_local c xS (lv_x c ()) B S)) $$ [Hf HO]
  · isplitr; · iexact Hkn
    isplitl [Hf] <;> iassumption
  rw [pay_x]
  iintro ⟨HO, Hz, Hx, Ha⟩
  have eX := owns_elim (F := F) (c : Thread nD τ) xB fullShare (xin m c)
  ihave Hx := eX $$ Hx
  icases Hx with ⟨%f, %hf, Hx⟩
  iapply (wp_load 𝒱₀ (c : Thread nD τ) none Set.univ (m := xB) (S := xB.view.set) (q := fullShare) (f := f)
    (by rw [show xB.view.set = Finset.univ from View.set_whole ..]; exact Finset.subset_univ _)) $$ Hx
  iintro Hx
  have hr : xB.view.readAt (Elt F) (Rect.unit (s := S512x4096) ![0, 0] S512x4096.size h).toLoadRect f = xin m c :=
    (Memref.readAt_unit_zero (Elt F) cc0_scratch0 (by decide) _ f).trans hf
  rw [hr]
  iapply Hk
  isplitl [HO]; · iexact HO
  isplitl [Hz]; · iexact Hz
  isplitl [Hx]
  · iapply (owns_of_read (c : Thread nD τ) xB fullShare f hf); iexact Hx
  iexact Ha

/-! ## The weights -/

/-- A slot of the weights before its copy, -/
def wReady (q : Fin 8) : sProp 𝕄 :=
  iprop(owns (c : Thread nD τ) (wCol (pr c q)) fullShare (wcol m c (pr c q)) ∗ held (c : Thread nD τ) (wSq q) ∗ fresh c (wS q))
/-- and after it. -/
def wDone (q : Fin 8) : sProp 𝕄 := iprop(semVal (dCell c (wS q)) 0 ∗ pay m c (.w q))

/-- Starting the copy of the columns of the weights slot `q` needs, -/
theorem runs_wcopy {Q : α → sProp 𝕄} (q : Fin 8) {o : Fin 2 → ℕ} (ho : o = ![0, 256 * (pr c q).val])
    {h : ∀ a, o a + S4096x256.size a ≤ S4096x2048.size a} {h' : ∀ a, (Rect.unit (s := S4096x2048) o S4096x256.size h).stride a = 1}
    {hsrc : (wA.slice (Rect.unit (s := S4096x2048) o S4096x256.size h) h').view.WordExact} {hdst : (wSq q).view.WordExact}
    {hsem : DmaTarget.Typed (nD := nD) .hbm (.dma (wS q)) (.here (p := Proc.tc) (wSq q))} {k : PUnit → Pr F α} :
    iprop(known m ∗ wReady m c q)
      ⊢ iprop((fly c (wS q) -∗ Runs c (k ⟨⟩) Q)
        -∗ Runs c (.op (.enqueueDma (wA.slice (Rect.unit (s := S4096x2048) o S4096x256.size h) h') (.here (wSq q))
            (.dma (wS q)) hsrc hdst hsem) k) Q) := by
  subst ho
  unfold wReady
  exact runs_start m c (wS q) (.w q) (kind_w q) (by simp) (wcol m c (pr c q)) (credit_w q) rfl

/-- and waiting for it and reading them. -/
theorem runs_weights {Q : α → sProp 𝕄} (q : Fin 8) {sp' : Space} {sh' : Shape} {e' : EltTy} {src : Memref sig .tc sp' sh' e'}
    {hsrc : src.view.WordExact} {hdst : (wSq q).view.WordExact} {hl : wB.view.LoadsAt (wRect q).toLoadRect}
    {k : (S1x4096x256.Idx → Elt F .f32) → Pr F α} (B S : Finset (Fin 7)) :
    iprop(known m ∗ fly c (wS q) ∗ owing c B S)
      ⊢ iprop(((owing c B S ∗ wDone m c q) -∗ Runs c (k (wslab m c (pr c q))) Q)
          -∗ Runs c (.op (.waitDma2 (wS q) src (wSq q) hsrc hdst) fun _ => .op (.load wB (wRect q).toLoadRect hl) k) Q) := by
  have hsl : (owns (c : Thread nD τ) (wSq q) fullShare (wcol m c (pr c q)) : sProp 𝕄)
      = owns (c : Thread nD τ) (wSlot q) fullShare (wslab m c (pr c q)) := by
    rw [← owns_squeeze (c : Thread nD τ) (wSlot q) S4096x256 squeezes_S1x4096x256_S4096x256 fullShare (wslab m c (pr c q))]
    unfold wslab
    simp only [Equiv.symm_apply_apply]
  iintro ⟨#Hkn, Hf, HO⟩ Hk
  iapply (runs_wait m c (wS q) (.w q) (kind_w q) (by simp) B S (credit_w q) (mayWait_local c (wS q) (lv_w c q ()) B S)) $$ [Hf HO]
  · isplitr; · iexact Hkn
    isplitl [Hf] <;> iassumption
  unfold wDone
  rw [pay_w, hsl]
  iintro ⟨HO, Hz, Hx, Ha⟩
  iapply (runs_load c (M := wB) (r := wRect q) (fun _ => rfl) (wslab m c (pr c q))) $$ Hx
  iintro Hx
  iapply Hk
  isplitl [HO]; · iexact HO
  isplitl [Hz]; · iexact Hz
  isplitl [Hx] <;> iassumption

/-! ## The send buffer -/

/-- A slot of the send buffer before its block is computed, -/
def sReady (p : Fin 7) : sProp 𝕄 :=
  iprop(held (c : Thread nD τ) (sSlot p) ∗ fresh c (sS p) ∗ dutyTok ER (dCell (pr c (up p)) (rS p)) 0 0)
/-- with its block, -/
def sFull (p : Fin 7) : sProp 𝕄 :=
  iprop(owns (c : Thread nD τ) (sSlot p) fullShare (chunkSlot m c (pr c (up p))) ∗ fresh c (sS p) ∗ dutyTok ER (dCell (pr c (up p)) (rS p)) 0 0)
/-- and after its transfer. -/
def sDone (p : Fin 7) : sProp 𝕄 := iprop(semVal (dCell c (sS p)) 0 ∗ pay m c (.s p))

/-- Storing a block in its slot. -/
theorem runs_block {Q : α → sProp 𝕄} (p : Fin 7) {hl : sB.view.LoadsAt (sRect p).toLoadRect} {v : S1x512x256.Idx → Elt F .bf16}
    (hv : v = chunkSlot m c (pr c (up p))) {hx : (sB.access (sRect p)).Stores Finset.univ}
    {hm : (Finset.univ : Finset (sRect p).shape.Idx) = Finset.univ ∨ ∀ a, (sRect p).stride a = 1} {k : PUnit → Pr F α} :
    (sReady (F := F) c p)
      ⊢ iprop((sFull m c p -∗ Runs c (k ⟨⟩) Q)
          -∗ Runs c (.op (.load sB (sRect p).toLoadRect hl) fun _ => .op (.store sB (sRect p) v Finset.univ hx hm) k) Q) := by
  subst hv
  unfold sReady sFull held
  iintro ⟨⟨%X, Hs⟩, Hf, Ht⟩ Hk
  iapply (runs_load c (M := sB) (r := sRect p) (fun _ => rfl) X) $$ Hs
  iintro Hs
  iapply (runs_store c (M := sB) (r := sRect p) (fun _ => rfl) X) $$ Hs
  iintro Hs
  iapply Hk
  isplitl [Hs]; · iexact Hs
  isplitl [Hf] <;> iassumption

/-- Sending a block to the partner. -/
theorem runs_ssend {Q : α → sProp 𝕄} (p : Fin 7) {n : Dev nD} (hn : n = pr c (up p)) {o : Fin 2 → ℕ} (ho : o = ![512 * c.val, 0])
    {h : ∀ a, o a + S512x256.size a ≤ S4096x256.size a} {h' : ∀ a, (Rect.unit (s := S4096x256) o S512x256.size h).stride a = 1}
    {hsc : (gB.slice (Rect.unit (s := S4096x256) o S512x256.size h) h').view.ref.isScScratch = false}
    {hsrc : (sSq p).view.WordExact} {hdst : (gB.slice (Rect.unit (s := S4096x256) o S512x256.size h) h').view.WordExact}
    {hsem : DmaTarget.Typed (p := Proc.tc) .vmem (.dma (rS p)) (.remote (p := Proc.tc) (n : Thread nD τ)
      (gB.slice (Rect.unit (s := S4096x256) o S512x256.size h) h') (.dma (sS p)) hsc)}
    {k : PUnit → Pr F α} {S : Finset (Fin 7)} (hp : p ∈ S) :
    iprop(known m ∗ owing c ∅ S ∗ sFull m c p ∗ barPay c p)
      ⊢ iprop(((owing c ∅ (S.erase p) ∗ fly c (sS p)) -∗ Runs c (k ⟨⟩) Q)
          -∗ Runs c (.op (.enqueueDma (sSq p) (.remote (n : Thread nD τ) (gB.slice (Rect.unit (s := S4096x256) o S512x256.size h) h')
              (.dma (sS p)) hsc) (.dma (rS p)) hsrc hdst hsem) k) Q) := by
  subst hn ho
  have hs : kindOf (sS p) ≠ .stage := by rw [kind_s]; simp
  have hr : kindOf (rS p) ≠ .stage := by rw [kind_r]; simp
  have hsq : (owns (c : Thread nD τ) (sSlot p) fullShare (chunkSlot m c (pr c (up p))) : sProp 𝕄)
      = owns (c : Thread nD τ) (sSq p) fullShare (chunk m c (pr c (up p))) :=
    (owns_squeeze (c : Thread nD τ) (sSlot p) S512x256 squeezes_S1x512x256_S512x256 fullShare (chunkSlot m c (pr c (up p)))).symm
  unfold sFull owing fresh fly barPay held
  rw [hsq]
  iintro ⟨#Hkn, ⟨%W, HO⟩, ⟨Hs, ⟨Hat, Ht⟩, Ht'⟩, ⟨%Y, Hd⟩⟩ Hk
  ihave #Hc1 := (known_dma m c hs) $$ Hkn
  ihave #Hc2 := (known_dma m (pr c (up p)) hr) $$ Hkn
  unfold kn
  icases Hc1 with ⟨⟨%κ₁, #Hi1⟩, #Hr1⟩
  icases Hc2 with ⟨⟨%κ₂, #Hi2⟩, #Hr2⟩
  iapply (runs_send c (sched (F := F) m) (c' := pr c (up p)) (src := sSq p) (dst := gRow c) (sS := .dma (sS p)) (sem := .dma (rS p))
      (κ₁ := κ₁) (κ₂ := κ₂) (d₁ := 0) (d₂ := 0) (chunk m c (pr c (up p))) Y
      (by rw [duties_dma m c hs]; exact Finset.mem_singleton_self _)
      (by rw [duties_dma m _ hr]; exact Finset.mem_singleton_self _) Ng (credit_r p c)
      ((amount_dma m c (sS p) 0).trans (by rw [kind_s]; rfl)) ((amount_dma m (pr c (up p)) (rS p) 0).trans (by rw [kind_r]; rfl))
      (owed c ∅ (S.erase p)) (owed_send c ∅ S p hp) (W := W)
      (by rw [payload_dma, kind_s]; exact BI.Entails.refl _)
      (by rw [payload_dma, kind_r, pay_r, pr_pr])) $$ [HO Hs Hd Ht Ht']
  · isplitr; · iexact Hi1
    isplitr; · iexact Hi2
    isplitl [Hs]; · iexact Hs
    isplitl [Hd]; · iexact Hd
    isplitl [HO]; · iexact HO
    isplitl [Ht]; · iexact Ht
    isplitr; · iexact Hr1
    isplitl [Ht']; · iexact Ht'
    iexact Hr2
  iintro ⟨Hc, HO⟩
  iapply Hk
  isplitl [HO]; · iexists W; iexact HO
  isplitl [Hat]; · iexact Hat
  rw [kind_s]; iexact Hc

/-- Waiting for a sent block to have left. -/
theorem runs_swait {Q : α → sProp 𝕄} (p : Fin 7) {sp' : Space} {sh' : Shape} {e' : EltTy} {src : Memref sig .tc sp' sh' e'}
    {hsrc : src.view.WordExact} {hdst : (sSq p).view.WordExact} {k : PUnit → Pr F α} :
    iprop(known m ∗ fly c (sS p) ∗ owing c ∅ ∅)
      ⊢ iprop(((owing c ∅ ∅ ∗ sDone m c p) -∗ Runs c (k ⟨⟩) Q) -∗ Runs c (.op (.waitDma2 (sS p) src (sSq p) hsrc hdst) k) Q) := by
  unfold sDone
  exact runs_wait m c (sS p) (.s p) (kind_s p) (by simp) ∅ ∅ (credit_s p) (mayWait_none c _)

/-! ## The receive buffer -/

/-- A slot of the receive buffer after its block has arrived. -/
def rDone (p : Fin 7) : sProp 𝕄 := iprop(semVal (dCell c (rS p)) 0 ∗ pay m c (.r p))

/-- Waiting for the partner's block, -/
theorem runs_rwait {Q : α → sProp 𝕄} (p : Fin 7) {o : Fin 2 → ℕ}
    {h : ∀ a, o a + S512x256.size a ≤ S4096x256.size a} {h' : ∀ a, (Rect.unit (s := S4096x256) o S512x256.size h).stride a = 1}
    {sp' : Space} {sh' : Shape} {e' : EltTy} {src : Memref sig .tc sp' sh' e'}
    {hsrc : src.view.WordExact} {hdst : (gB.slice (Rect.unit (s := S4096x256) o S512x256.size h) h').view.WordExact}
    {k : PUnit → Pr F α} (ho : o = ![512 * (pr c (up p)).val, 0]) :
    iprop(known m ∗ fly c (rS p) ∗ owing c ∅ ∅)
      ⊢ iprop(((owing c ∅ ∅ ∗ rDone m c p) -∗ Runs c (k ⟨⟩) Q)
          -∗ Runs c (.op (.waitDma2 (rS p) src (gB.slice (Rect.unit (s := S4096x256) o S512x256.size h) h') hsrc hdst) k) Q) := by
  subst ho
  unfold rDone
  exact runs_wait m c (rS p) (.r p) (kind_r p) (by simp) ∅ ∅ (credit_r p _) (mayWait_none c _)

/-- and reading it. -/
theorem runs_rload {Q : α → sProp 𝕄} (p : Fin 7) {o : Fin 2 → ℕ} (ho : o = ![512 * (pr c (up p)).val, 0])
    {h : ∀ a, o a + S512x256.size a ≤ S4096x256.size a} {hl : gB.view.LoadsAt (Rect.unit (s := S4096x256) o S512x256.size h).toLoadRect}
    {k : (S512x256.Idx → Elt F .bf16) → Pr F α} :
    (rDone m c p)
      ⊢ iprop((rDone m c p -∗ Runs c (k (chunk m (pr c (up p)) c)) Q)
          -∗ Runs c (.op (.load gB (Rect.unit (s := S4096x256) o S512x256.size h).toLoadRect hl) k) Q) := by
  subst ho
  unfold rDone
  rw [pay_r]
  iintro ⟨Hz, Hx⟩ Hk
  iapply (runs_load c (M := gB) (r := rRect (pr c (up p))) (fun _ => rfl) (chunk m (pr c (up p)) c)) $$ Hx
  iintro Hx
  iapply Hk
  isplitl [Hz] <;> iassumption

/-! ## The output buffer -/

/-- A slot of the output buffer before its block is stored, -/
def oReady (q : Fin 8) : sProp 𝕄 :=
  iprop(held (c : Thread nD τ) (tSlot q) ∗ held (c : Thread nD τ) (oRow (pr c q)) ∗ fresh c (oS q))
/-- with its block, -/
def oFull (q : Fin 8) : sProp 𝕄 :=
  iprop(owns (c : Thread nD τ) (tSlot q) fullShare (outSlot m c q) ∗ held (c : Thread nD τ) (oRow (pr c q)) ∗ fresh c (oS q))
/-- and after its copy to the result. -/
def oDone (q : Fin 8) : sProp 𝕄 := iprop(semVal (dCell c (oS q)) 0 ∗ pay m c (.o q))

/-- Storing a block in its slot, -/
theorem runs_ostore {Q : α → sProp 𝕄} (q : Fin 8) {hl : tB.view.LoadsAt (tRect q).toLoadRect} {v : S1x512x256.Idx → Elt F .f32}
    (hv : v = outSlot m c q) {hx : (tB.access (tRect q)).Stores Finset.univ}
    {hm : (Finset.univ : Finset (tRect q).shape.Idx) = Finset.univ ∨ ∀ a, (tRect q).stride a = 1} {k : PUnit → Pr F α} :
    (oReady (F := F) c q)
      ⊢ iprop((oFull m c q -∗ Runs c (k ⟨⟩) Q)
          -∗ Runs c (.op (.load tB (tRect q).toLoadRect hl) fun _ => .op (.store tB (tRect q) v Finset.univ hx hm) k) Q) := by
  subst hv
  unfold oReady oFull
  iintro ⟨Hs, Hf, Ht⟩ Hk
  unfold held
  icases Hs with ⟨%X, Hs⟩
  iapply (runs_load c (M := tB) (r := tRect q) (fun _ => rfl) X) $$ Hs
  iintro Hs
  iapply (runs_store c (M := tB) (r := tRect q) (fun _ => rfl) X) $$ Hs
  iintro Hs
  iapply Hk
  isplitl [Hs]; · iexact Hs
  isplitl [Hf] <;> iassumption

/-- starting its copy to the rows of the result it makes, -/
theorem runs_ocopy {Q : α → sProp 𝕄} (q : Fin 8) {o : Fin 2 → ℕ} (ho : o = ![512 * (pr c q).val, 0])
    {h : ∀ a, o a + S512x256.size a ≤ S4096x256.size a} {h' : ∀ a, (Rect.unit (s := S4096x256) o S512x256.size h).stride a = 1}
    {hsrc : (tSq q).view.WordExact} {hdst : (oA.slice (Rect.unit (s := S4096x256) o S512x256.size h) h').view.WordExact}
    {hsem : DmaTarget.Typed (nD := nD) .vmem (.dma (oS q)) (.here (p := Proc.tc) (oA.slice (Rect.unit (s := S4096x256) o S512x256.size h) h'))}
    {k : PUnit → Pr F α} :
    iprop(known m ∗ oFull m c q)
      ⊢ iprop((fly c (oS q) -∗ Runs c (k ⟨⟩) Q)
        -∗ Runs c (.op (.enqueueDma (tSq q) (.here (oA.slice (Rect.unit (s := S4096x256) o S512x256.size h) h'))
            (.dma (oS q)) hsrc hdst hsem) k) Q) := by
  subst ho
  have hsq : (owns (c : Thread nD τ) (tSlot q) fullShare (outSlot m c q) : sProp 𝕄)
      = owns (c : Thread nD τ) (tSq q) fullShare (outv m c q) :=
    (owns_squeeze (c : Thread nD τ) (tSlot q) S512x256 squeezes_S1x512x256_S512x256 fullShare (outSlot m c q)).symm
  unfold oFull
  rw [hsq]
  exact runs_start m c (oS q) (.o q) (kind_o q) (by simp) (outv m c q) (credit_o q _) rfl

/-- and waiting for it. -/
theorem runs_owait {Q : α → sProp 𝕄} (q : Fin 8) {o : Fin 2 → ℕ} (ho : o = ![512 * (pr c q).val, 0])
    {h : ∀ a, o a + S512x256.size a ≤ S4096x256.size a} {h' : ∀ a, (Rect.unit (s := S4096x256) o S512x256.size h).stride a = 1}
    {sp' : Space} {sh' : Shape} {e' : EltTy} {src : Memref sig .tc sp' sh' e'}
    {hsrc : src.view.WordExact} {hdst : (oA.slice (Rect.unit (s := S4096x256) o S512x256.size h) h').view.WordExact} {k : PUnit → Pr F α} :
    iprop(known m ∗ fly c (oS q) ∗ owing c ∅ ∅)
      ⊢ iprop(((owing c ∅ ∅ ∗ oDone m c q) -∗ Runs c (k ⟨⟩) Q)
        -∗ Runs c (.op (.waitDma2 (oS q) src (oA.slice (Rect.unit (s := S4096x256) o S512x256.size h) h') hsrc hdst) k) Q) := by
  subst ho
  unfold oDone
  exact runs_wait m c (oS q) (.o q) (kind_o q) (by simp) ∅ ∅ (credit_o q _) (mayWait_none c _)

end Cert.Scatter

end
-- ==== Proof.Parts.lean ====
/-
# The kernel's body, window by window

The body is a sequence of windows. Each theorem here runs one of them: from the slots as they stand before it to the
slots as they stand after it.
-/
module

public import proofs.«01_k».proof.Proof.Slots

@[expose] public section

set_option maxRecDepth 65536

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A window of the body at the launch's buffers and counters. -/
def app.{u} {R : Type u} (k : (a0 : Memref sig .tc .hbm S512x4096 .f32) → a0.IsWhole → (a1 : Memref sig .tc .hbm S4096x2048 .f32) → a1.IsWhole
      → (a2 : Memref sig .tc .smem S1 .f32) → a2.IsWhole → (a3 : Memref sig .tc .smem S1 .f32) → a3.IsWhole
      → (a4 : Memref sig .tc .hbm S4096x256 .f32) → a4.IsWhole → (a5 : Memref sig .tc .vmem S512x4096 .f32) → a5.IsWhole
      → (a6 : Memref sig .tc .vmem S8x4096x256 .f32) → a6.IsWhole → (a7 : Memref sig .tc .vmem S7x512x256 .bf16) → a7.IsWhole
      → (a8 : Memref sig .tc .vmem S4096x256 .bf16) → a8.IsWhole → (a9 : Memref sig .tc .vmem S8x512x256 .f32) → a9.IsWhole
      → DmaSems sig S9 → DmaSems sig S8 → DmaSems sig S7 → DmaSems sig S7 → R) : R :=
  k xA (Memref.isWhole_whole _) wA (Memref.isWhole_whole _) (Memref.whole cc0_stg0_0) (Memref.isWhole_whole _)
    (Memref.whole cc0_stg1_0) (Memref.isWhole_whole _) oA (Memref.isWhole_whole _) xB (Memref.isWhole_whole _)
    wB (Memref.isWhole_whole _) sB (Memref.isWhole_whole _) gB (Memref.isWhole_whole _) tB (Memref.isWhole_whole _)
    cc0_scratch5 cc0_scratch6 cc0_scratch7 cc0_scratch8

variable (m : (ℓ : Loc nD τ sig) → Buf (Elt F) ℓ) (c : Dev nD)

/-! ## Composition -/

/-- A program that returns a value runs to whatever holds of that value. -/
theorem runs_ret {α : Type} {Q : α → sProp 𝕄} (a : α) : (Q a : sProp 𝕄) ⊢ Runs c (Prog.ret a) Q := by
  unfold Runs
  rw [wp_ret]
  iintro H
  imodintro
  iexact H

/-- A program followed by another runs to what the second reaches from where the first ends. -/
theorem runs_bind {α β : Type} {Q : β → sProp 𝕄} (P : Pr F α) (k : α → Pr F β) :
    (Runs c P (fun a => Runs c (k a) Q) : sProp 𝕄) ⊢ Runs c (P >>= k) Q := by
  unfold Runs
  rw [wp_bind]

/-- Reading the one element of a scalar buffer. -/
theorem runs_scalar {α : Type} {Q : α → sProp 𝕄} {M : Memref sig .tc .smem S1 .f32} {r : Rect S1} {x : r.shape.Idx}
    {hw : (M.access r).Loads} {k : Elt F .f32 → Pr F α} (X : S1.Idx → Elt F .f32) (i : S1.Idx) :
    (owns (c : Thread nD τ) M fullShare X : sProp 𝕄)
      ⊢ iprop((owns (c : Thread nD τ) M fullShare X -∗ Runs c (k (X i)) Q) -∗ Runs c (smemLoadElt M r hw x k) Q) := by
  iintro H Hk
  have eH := owns_elim (F := F) (c : Thread nD τ) M fullShare X
  ihave H := eH $$ H
  icases H with ⟨%f, %hf, H⟩
  iapply (wp_smemLoadElt 𝒱₀ (c : Thread nD τ) none Set.univ (m := M) (r := r) (x := x) (S := M.view.set) (q := fullShare) (f := f)
    (View.set_slice_subset ..)) $$ H
  iintro H
  have hx : (M.access r).read (Elt F) f x = X i := by
    rw [← hf]
    show M.view.read (Elt F) f (r.emb x) = M.view.read (Elt F) f i
    congr 1
    funext a
    have h1 := (r.emb x a).isLt
    have h2 := (i a).isLt
    have h3 : S1.size a = 1 := by fin_cases a; rfl
    exact Fin.ext (by omega)
  rw [hx]
  iapply Hk
  iapply (owns_of_read (c : Thread nD τ) M fullShare f hf); iexact H

/-! ## What is left to signal and to send -/

/-- The slots from the `n`-th on. -/
def after (n : ℕ) : Finset (Fin 7) := Finset.univ.filter fun p => n ≤ p.val
/-- A slot is among the slots from itself on. -/
theorem mem_after (p : Fin 7) : p ∈ after p.val := by revert p; decide
/-- The slots from one on, without that one, are the slots from the next on. -/
theorem erase_after (p : Fin 7) : (after p.val).erase p = after (p.val + 1) := by revert p; decide
/-- The slots from the first on are all the slots. -/
theorem after_zero : after 0 = Finset.univ := by decide
/-- No slot is left after the seventh. -/
theorem after_seven : after 7 = ∅ := by decide

/-- What a signal to a partner needs: its duty, and the rows lent to the partner. -/
def offer (p : Fin 7) : sProp 𝕄 :=
  iprop(dutyTok ER (barCell (pr c (up p))) 0 p ∗ held (F := F) (c : Thread nD τ) (gRow (pr c (up p))))
/-- Signals are left to the slots from the `n`-th on, and every block is to be sent. -/
def signals (n : ℕ) : sProp 𝕄 := iprop(owing c (after n) (after 0) ∗ BI.bigSep (after n) fun p => offer (F := F) c p)
/-- Blocks are left to be sent at the slots from the `n`-th on, to the rows each partner has lent. -/
def sends (n : ℕ) : sProp 𝕄 := iprop(owing c ∅ (after n) ∗ BI.bigSep (after n) fun p => barPay (F := F) c p)
/-- Nothing is left to signal or to send. -/
abbrev quiet : sProp 𝕄 := owing (F := F) c ∅ ∅

/-- Signalling the partner at the next slot leaves one signal fewer to send. -/
theorem runs_next_signal {α : Type} {Q : α → sProp 𝕄} (p : Fin 7) {n : Dev nD} (hn : n = pr c (up p)) {k' : ℕ} (hk' : k' = 1)
    {k : PUnit → Pr F α} :
    iprop(known m ∗ signals (F := F) c p.val)
      ⊢ iprop((signals (F := F) c (p.val + 1) -∗ Runs c (k ⟨⟩) Q) -∗ Runs c (.op (.semSignal (n, .tc) barS k') k) Q) := by
  have hb : (BI.bigSep (after p.val) fun p => offer (F := F) c p)
      = iprop(offer (F := F) c p ∗ BI.bigSep ((after p.val).erase p) fun p => offer (F := F) c p) := BI.bigSep_erase (mem_after p)
  unfold signals
  rw [← erase_after p, hb]
  unfold offer
  iintro ⟨#Hkn, HO, ⟨Ht, Hg⟩, Hr⟩ Hk
  iapply (runs_signal m c p hn hk' (B := after p.val) (S := after 0) (mem_after p)) $$ [HO Ht Hg]
  · isplitr; · iexact Hkn
    isplitl [HO]; · iexact HO
    isplitl [Ht] <;> iassumption
  iintro HO
  iapply Hk
  isplitl [HO] <;> iassumption

/-- Starting the transfer of the next slot's block leaves one block fewer to send, and its send counter in flight. -/
theorem runs_next_send {α : Type} {Q : α → sProp 𝕄} (p : Fin 7) {n : Dev nD} (hn : n = pr c (up p)) {o : Fin 2 → ℕ} (ho : o = ![512 * c.val, 0])
    {h : ∀ a, o a + S512x256.size a ≤ S4096x256.size a} {h' : ∀ a, (Rect.unit (s := S4096x256) o S512x256.size h).stride a = 1}
    {hsc : (gB.slice (Rect.unit (s := S4096x256) o S512x256.size h) h').view.ref.isScScratch = false}
    {hsrc : (sSq p).view.WordExact} {hdst : (gB.slice (Rect.unit (s := S4096x256) o S512x256.size h) h').view.WordExact}
    {hsem : DmaTarget.Typed (p := Proc.tc) .vmem (.dma (rS p)) (.remote (p := Proc.tc) (n : Thread nD τ)
      (gB.slice (Rect.unit (s := S4096x256) o S512x256.size h) h') (.dma (sS p)) hsc)}
    {k : PUnit → Pr F α} :
    iprop(known m ∗ sends (F := F) c p.val ∗ sFull m c p)
      ⊢ iprop(((sends (F := F) c (p.val + 1) ∗ fly c (sS p)) -∗ Runs c (k ⟨⟩) Q)
          -∗ Runs c (.op (.enqueueDma (sSq p) (.remote (n : Thread nD τ) (gB.slice (Rect.unit (s := S4096x256) o S512x256.size h) h')
              (.dma (sS p)) hsc) (.dma (rS p)) hsrc hdst hsem) k) Q) := by
  have hb : (BI.bigSep (after p.val) fun p => barPay (F := F) c p)
      = iprop(barPay (F := F) c p ∗ BI.bigSep ((after p.val).erase p) fun p => barPay (F := F) c p) := BI.bigSep_erase (mem_after p)
  unfold sends
  rw [← erase_after p, hb]
  iintro ⟨#Hkn, ⟨HO, Hb, Hr⟩, Hs⟩ Hk
  iapply (runs_ssend m c p hn ho (S := after p.val) (mem_after p)) $$ [HO Hs Hb]
  · isplitr; · iexact Hkn
    isplitl [HO]; · iexact HO
    isplitl [Hs] <;> iassumption
  iintro ⟨HO, Hf⟩
  iapply Hk
  isplitr [Hf]
  · isplitl [HO] <;> iassumption
  iexact Hf

/-! ## Steps that always come together -/

/-- Reading a slot's weights and storing the block they make. -/
theorem runs_compute {α : Type} {Q : α → sProp 𝕄} (p : Fin 7) {sp' : Space} {sh' : Shape} {e' : EltTy} {src : Memref sig .tc sp' sh' e'}
    {hsrc : src.view.WordExact} {hdst : (wSq (up p)).view.WordExact} {hl : wB.view.LoadsAt (wRect (up p)).toLoadRect}
    {hl' : sB.view.LoadsAt (sRect p).toLoadRect} {f : (S1x4096x256.Idx → Elt F .f32) → (S1x512x256.Idx → Elt F .bf16)}
    (hf : f = k0_pay4 (scale m c) (k0_pay2 (xin m c))) {hx : (sB.access (sRect p)).Stores Finset.univ}
    {hm : (Finset.univ : Finset (sRect p).shape.Idx) = Finset.univ ∨ ∀ a, (sRect p).stride a = 1} {k : PUnit → Pr F α} (n : ℕ) (B : Finset (Fin 7)) :
    iprop(known m ∗ owing c B (after n) ∗ fly c (wS (up p)) ∗ sReady (F := F) c p)
      ⊢ iprop(((owing c B (after n) ∗ wDone m c (up p) ∗ sFull m c p) -∗ Runs c (k ⟨⟩) Q)
        -∗ Runs c (.op (.waitDma2 (wS (up p)) src (wSq (up p)) hsrc hdst) fun _ => .op (.load wB (wRect (up p)).toLoadRect hl) fun v =>
            .op (.load sB (sRect p).toLoadRect hl') fun _ => .op (.store sB (sRect p) (f v) Finset.univ hx hm) k) Q) := by
  subst hf
  iintro ⟨#Hkn, HO, Hw, Hs⟩ Hk
  iapply (runs_weights m c (up p) B (after n)) $$ [Hw HO]
  · isplitr; · iexact Hkn
    isplitl [Hw] <;> iassumption
  iintro ⟨HO, Hw⟩
  iapply (runs_block m c p rfl) $$ Hs
  iintro Hs
  iapply Hk
  isplitl [HO]; · iexact HO
  isplitl [Hw] <;> iassumption

/-- Sending one block and computing another. -/
theorem runs_round {α : Type} {Q : α → sProp 𝕄} (p q : Fin 7) {n : Dev nD} (hn : n = pr c (up p)) {o : Fin 2 → ℕ} (ho : o = ![512 * c.val, 0])
    {h : ∀ a, o a + S512x256.size a ≤ S4096x256.size a} {h' : ∀ a, (Rect.unit (s := S4096x256) o S512x256.size h).stride a = 1}
    {hsc : (gB.slice (Rect.unit (s := S4096x256) o S512x256.size h) h').view.ref.isScScratch = false}
    {hsrc : (sSq p).view.WordExact} {hdst : (gB.slice (Rect.unit (s := S4096x256) o S512x256.size h) h').view.WordExact}
    {hsem : DmaTarget.Typed (p := Proc.tc) .vmem (.dma (rS p)) (.remote (p := Proc.tc) (n : Thread nD τ)
      (gB.slice (Rect.unit (s := S4096x256) o S512x256.size h) h') (.dma (sS p)) hsc)}
    {sp' : Space} {sh' : Shape} {e' : EltTy} {src : Memref sig .tc sp' sh' e'}
    {hsrc' : src.view.WordExact} {hdst' : (wSq (up q)).view.WordExact} {hl : wB.view.LoadsAt (wRect (up q)).toLoadRect}
    {hl' : sB.view.LoadsAt (sRect q).toLoadRect} {f : (S1x4096x256.Idx → Elt F .f32) → (S1x512x256.Idx → Elt F .bf16)}
    (hf : f = k0_pay4 (scale m c) (k0_pay2 (xin m c))) {hx : (sB.access (sRect q)).Stores Finset.univ}
    {hm : (Finset.univ : Finset (sRect q).shape.Idx) = Finset.univ ∨ ∀ a, (sRect q).stride a = 1} {k : PUnit → Pr F α} :
    iprop(known m ∗ sends (F := F) c p.val ∗ sFull m c p ∗ fly c (wS (up q)) ∗ sReady (F := F) c q)
      ⊢ iprop(((sends (F := F) c (p.val + 1) ∗ fly c (sS p) ∗ wDone m c (up q) ∗ sFull m c q) -∗ Runs c (k ⟨⟩) Q)
          -∗ Runs c (.op (.enqueueDma (sSq p) (.remote (n : Thread nD τ) (gB.slice (Rect.unit (s := S4096x256) o S512x256.size h) h')
              (.dma (sS p)) hsc) (.dma (rS p)) hsrc hdst hsem) fun _ =>
            .op (.waitDma2 (wS (up q)) src (wSq (up q)) hsrc' hdst') fun _ => .op (.load wB (wRect (up q)).toLoadRect hl) fun v =>
            .op (.load sB (sRect q).toLoadRect hl') fun _ => .op (.store sB (sRect q) (f v) Finset.univ hx hm) k) Q) := by
  iintro ⟨#Hkn, HO, Hp, Hw, Hs⟩ Hk
  iapply (runs_next_send m c p hn ho) $$ [HO Hp]
  · isplitr; · iexact Hkn
    isplitl [HO] <;> iassumption
  unfold sends
  iintro ⟨⟨HO, Hb⟩, Hf⟩
  iapply (runs_compute m c q hf (p.val + 1) ∅) $$ [HO Hw Hs]
  · isplitr; · iexact Hkn
    isplitl [HO]; · iexact HO
    isplitl [Hw] <;> iassumption
  iintro ⟨HO, Hw, Hs⟩
  iapply Hk
  isplitl [HO Hb]
  · isplitl [HO] <;> iassumption
  isplitl [Hf]; · iexact Hf
  isplitl [Hw] <;> iassumption

/-- Waiting for a partner's block and reading it. -/
theorem runs_recv {α : Type} {Q : α → sProp 𝕄} (p : Fin 7) {o o' : Fin 2 → ℕ} (ho : o = ![512 * (pr c (up p)).val, 0])
    (ho' : o' = ![512 * (pr c (up p)).val, 0])
    {h : ∀ a, o a + S512x256.size a ≤ S4096x256.size a} {h' : ∀ a, (Rect.unit (s := S4096x256) o S512x256.size h).stride a = 1}
    {sp' : Space} {sh' : Shape} {e' : EltTy} {src : Memref sig .tc sp' sh' e'}
    {hsrc : src.view.WordExact} {hdst : (gB.slice (Rect.unit (s := S4096x256) o S512x256.size h) h').view.WordExact}
    {hi : ∀ a, o' a + S512x256.size a ≤ S4096x256.size a} {hl : gB.view.LoadsAt (Rect.unit (s := S4096x256) o' S512x256.size hi).toLoadRect}
    {k : (S512x256.Idx → Elt F .bf16) → Pr F α} :
    iprop(known m ∗ quiet (F := F) c ∗ fly c (rS p))
      ⊢ iprop(((quiet (F := F) c ∗ rDone m c p) -∗ Runs c (k (chunk m (pr c (up p)) c)) Q)
          -∗ Runs c (.op (.waitDma2 (rS p) src (gB.slice (Rect.unit (s := S4096x256) o S512x256.size h) h') hsrc hdst) fun _ =>
            .op (.load gB (Rect.unit (s := S4096x256) o' S512x256.size hi).toLoadRect hl) k) Q) := by
  unfold quiet
  iintro ⟨#Hkn, HO, Hr⟩ Hk
  iapply (runs_rwait m c p ho) $$ [Hr HO]
  · isplitr; · iexact Hkn
    isplitl [Hr] <;> iassumption
  iintro ⟨HO, Hr⟩
  iapply (runs_rload m c p ho') $$ Hr
  iintro Hr
  iapply Hk
  isplitl [HO] <;> iassumption

/-- Storing a block in its slot of the output buffer and starting its copy to the result. -/
theorem runs_out {α : Type} {Q : α → sProp 𝕄} (q : Fin 8) {hl : tB.view.LoadsAt (tRect q).toLoadRect} {v : S1x512x256.Idx → Elt F .f32}
    (hv : v = outSlot m c q) {hx : (tB.access (tRect q)).Stores Finset.univ}
    {hm : (Finset.univ : Finset (tRect q).shape.Idx) = Finset.univ ∨ ∀ a, (tRect q).stride a = 1} {o : Fin 2 → ℕ} (ho : o = ![512 * (pr c q).val, 0])
    {h : ∀ a, o a + S512x256.size a ≤ S4096x256.size a} {h' : ∀ a, (Rect.unit (s := S4096x256) o S512x256.size h).stride a = 1}
    {hsrc : (tSq q).view.WordExact} {hdst : (oA.slice (Rect.unit (s := S4096x256) o S512x256.size h) h').view.WordExact}
    {hsem : DmaTarget.Typed (nD := nD) .vmem (.dma (oS q)) (.here (p := Proc.tc) (oA.slice (Rect.unit (s := S4096x256) o S512x256.size h) h'))}
    {k : PUnit → Pr F α} :
    iprop(known m ∗ oReady (F := F) c q)
      ⊢ iprop((fly c (oS q) -∗ Runs c (k ⟨⟩) Q)
          -∗ Runs c (.op (.load tB (tRect q).toLoadRect hl) fun _ => .op (.store tB (tRect q) v Finset.univ hx hm) fun _ =>
            .op (.enqueueDma (tSq q) (.here (oA.slice (Rect.unit (s := S4096x256) o S512x256.size h) h')) (.dma (oS q)) hsrc hdst hsem) k) Q) := by
  iintro ⟨#Hkn, Ho⟩ Hk
  iapply (runs_ostore m c q hv) $$ Ho
  iintro Ho
  iapply (runs_ocopy m c q ho) $$ [Ho]
  · isplitr <;> iassumption
  iexact Hk

/-- A received block's slot of the output buffer holds the block widened; -/
theorem outSlot_up (p : Fin 7) : k0_pay11 (chunk m (pr c (up p)) c) = outSlot m c (up p) := by
  rw [outSlot, if_neg (by revert p; decide)]
/-- the device's own slot holds its own block. -/
theorem outSlot_own : k0_pay10 (scale m c) (k0_pay2 (xin m c)) (wslab m c (pr c 7)) = outSlot m c 7 := by
  rw [outSlot, if_pos rfl]
/-- The row offset of a device's own block is that of slot 7. -/
theorem off3_own : k0_off3 c = ![512 * (pr c 7).val, 0] := by rw [pr_own]; exact off3_eq c

/-! ## The windows -/

/-- The scale is read, and the first six partners are signalled. -/
theorem part1 {Q : (Σ' (d0 : Dev nD) (v2 : BitVec 32) (v5 : F .f32), Sems sig S_) → sProp 𝕄} :
    iprop(known m ∗ owns (c : Thread nD τ) (Memref.whole cc0_stg0_0) fullShare (m ((c : Thread nD τ).loc main_arg2)) ∗ owns (c : Thread nD τ) (Memref.whole cc0_stg1_0) fullShare (m ((c : Thread nD τ).loc main_arg3)) ∗ signals (F := F) c 0)
      ⊢ iprop(((owns (c : Thread nD τ) (Memref.whole cc0_stg0_0) fullShare (m ((c : Thread nD τ).loc main_arg2)) ∗ owns (c : Thread nD τ) (Memref.whole cc0_stg1_0) fullShare (m ((c : Thread nD τ).loc main_arg3)) ∗ signals (F := F) c 6) -∗ Q ⟨c, Scalar.remsi (Scalar.divsi (Dev.word c) 1#32) 8#32, scale m c, SemArray.scalar (sig.barrier 0 rfl)⟩)
        -∗ Runs c (app (k0_part1 (F := F))) Q) := by
  unfold app Runs scale
  simp only [k0_part1_eq_skeleton]; unfold k0_part1_skel
  simp only [smemLoad, smemLoadElt_bind, semSignalWord, Prog.lift, Prog.bind_op, Prog.bind_ret, Prog.pure_eq_ret, wp_deviceId]
  iintro ⟨#Hkn, Ha, Hb, HO⟩ Hk
  iapply (runs_scalar c (m ((c : Thread nD τ).loc main_arg2)) (Shape.Idx.first (numel1_S1.symm ▸ Nat.one_pos))) $$ Ha
  iintro Ha
  iapply (runs_scalar c (m ((c : Thread nD τ).loc main_arg3)) (Shape.Idx.first (numel1_S1.symm ▸ Nat.one_pos))) $$ Hb
  iintro Hb
  iapply (runs_next_signal m c 0 (dev1_eq c) rfl) $$ [HO]
  · isplitr; · iexact Hkn
    iexact HO
  iintro HO
  iapply (runs_next_signal m c 1 (dev2_eq c) rfl) $$ [HO]
  · isplitr; · iexact Hkn
    iexact HO
  iintro HO
  iapply (runs_next_signal m c 2 (dev3_eq c) rfl) $$ [HO]
  · isplitr; · iexact Hkn
    iexact HO
  iintro HO
  iapply (runs_next_signal m c 3 (dev4_eq c) rfl) $$ [HO]
  · isplitr; · iexact Hkn
    iexact HO
  iintro HO
  iapply (runs_next_signal m c 4 (dev5_eq c) rfl) $$ [HO]
  · isplitr; · iexact Hkn
    iexact HO
  iintro HO
  iapply (runs_next_signal m c 5 (dev6_eq c) rfl) $$ [HO]
  · isplitr; · iexact Hkn
    iexact HO
  iintro HO
  iapply (runs_ret c _)
  iapply Hk
  isplitl [Ha]; · iexact Ha
  isplitl [Hb]; · iexact Hb
  iexact HO

/-- The last partner is signalled, and the copies of `x` and of the weights of slots 0 to 2 start. -/
theorem part2 {Q : (Σ' (v51 : BitVec 32), BitVec 32) → sProp 𝕄} (v2 : BitVec 32) :
    iprop(known m ∗ signals (F := F) c 6 ∗ owns (c : Thread nD τ) xA fullShare (xin m c) ∗ held (c : Thread nD τ) xB ∗ fresh c xS ∗ wReady m c 0 ∗ wReady m c 1 ∗ wReady m c 2)
      ⊢ iprop(((signals (F := F) c 7 ∗ fly c xS ∗ fly c (wS 0) ∗ fly c (wS 1) ∗ fly c (wS 2)) -∗ Q ⟨Scalar.xori v2 7#32, 256#32⟩)
        -∗ Runs c (app (k0_part2 (F := F)) c v2 (SemArray.scalar (sig.barrier 0 rfl))) Q) := by
  unfold app Runs
  simp only [k0_part2_eq_skeleton]; unfold k0_part2_skel
  simp only [semSignalWord, Prog.lift, Prog.bind_op, Prog.bind_ret, Prog.pure_eq_ret]
  iintro ⟨#Hkn, HO, Hx, HX, Hfx, Hw0, Hw1, Hw2⟩ Hk
  iapply (runs_next_signal m c 6 (dev7_eq c) rfl) $$ [HO]
  · isplitr; · iexact Hkn
    iexact HO
  iintro HO
  iapply (runs_xcopy m c) $$ [Hx HX Hfx]
  · isplitr; · iexact Hkn
    isplitl [Hx]; · iexact Hx
    isplitl [HX]; · iexact HX
    iexact Hfx
  iintro Hx
  iapply (runs_wcopy m c 0 (off1_eq c 0)) $$ [Hw0]
  · isplitr; · iexact Hkn
    iexact Hw0
  iintro Hw0
  iapply (runs_wcopy m c 1 (off1_eq c 1)) $$ [Hw1]
  · isplitr; · iexact Hkn
    iexact Hw1
  iintro Hw1
  iapply (runs_wcopy m c 2 (off1_eq c 2)) $$ [Hw2]
  · isplitr; · iexact Hkn
    iexact Hw2
  iintro Hw2
  iapply (runs_ret c _)
  iapply Hk
  isplitl [HO]; · iexact HO
  isplitl [Hx]; · iexact Hx
  isplitl [Hw0]; · iexact Hw0
  isplitl [Hw1]; · iexact Hw1
  iexact Hw2

/-- The copies of the weights of slots 3 to 6 start. -/
theorem part3 {Q : PUnit → sProp 𝕄} (v2 v51 v : BitVec 32) :
    iprop(known m ∗ wReady m c 3 ∗ wReady m c 4 ∗ wReady m c 5 ∗ wReady m c 6)
      ⊢ iprop(((fly c (wS 3) ∗ fly c (wS 4) ∗ fly c (wS 5) ∗ fly c (wS 6)) -∗ Q ⟨⟩)
        -∗ Runs c (app (k0_part3 (F := F)) c v2 v51 v) Q) := by
  unfold app Runs
  simp only [k0_part3_eq_skeleton]; unfold k0_part3_skel
  simp only [Prog.lift, Prog.bind_op, Prog.bind_ret, Prog.pure_eq_ret]
  iintro ⟨#Hkn, Hw3, Hw4, Hw5, Hw6⟩ Hk
  iapply (runs_wcopy m c 3 (off1_eq c 3)) $$ [Hw3]
  · isplitr; · iexact Hkn
    iexact Hw3
  iintro Hw3
  iapply (runs_wcopy m c 4 (off1_eq c 4)) $$ [Hw4]
  · isplitr; · iexact Hkn
    iexact Hw4
  iintro Hw4
  iapply (runs_wcopy m c 5 (off1_eq c 5)) $$ [Hw5]
  · isplitr; · iexact Hkn
    iexact Hw5
  iintro Hw5
  iapply (runs_wcopy m c 6 (off1_eq c 6)) $$ [Hw6]
  · isplitr; · iexact Hkn
    iexact Hw6
  iintro Hw6
  iapply (runs_ret c _)
  iapply Hk
  isplitl [Hw3]; · iexact Hw3
  isplitl [Hw4]; · iexact Hw4
  isplitl [Hw5]; · iexact Hw5
  iexact Hw6

/-- The last copy starts, the first block is computed, and every partner has lent its rows. -/
theorem part4 {Q : (Σ' (v88 : FVec F S512x4096 .fp8e4m3), BitVec 32) → sProp 𝕄} (v2 : BitVec 32) :
    iprop(known m ∗ owing c ∅ (after 0) ∗ wReady m c 7 ∗ fly c xS ∗ fly c (wS 0) ∗ sReady (F := F) c 0 ∗ atPos ER (barCell c) 0 ∅ 0 ∗ cred (tallyAt (barCell c) () 7))
      ⊢ iprop(((owing c ∅ (after 0) ∗ (BI.bigSep Finset.univ fun p : Fin 7 => barPay c p) ∗ semVal (barCell c) 0 ∗ (semVal (dCell c xS) 0 ∗ pay m c .x) ∗ wDone m c 0 ∗ sFull m c 0 ∗ fly c (wS 7)) -∗ Q ⟨k0_pay2 (xin m c), Scalar.xori v2 6#32⟩)
        -∗ Runs c (app (k0_part4 (F := F)) c v2 (scale m c) (SemArray.scalar (sig.barrier 0 rfl))) Q) := by
  unfold app Runs
  simp only [k0_part4_eq_skeleton]; unfold k0_part4_skel
  simp only [semWaitWord, Prog.lift, Prog.bind_op, Prog.bind_ret, Prog.pure_eq_ret]
  iintro ⟨#Hkn, HO, Hw7, Hx, Hw0, Hs, Hat, Hc⟩ Hk
  iapply (runs_wcopy m c 7 (off2_eq c)) $$ [Hw7]
  · isplitr; · iexact Hkn
    iexact Hw7
  iintro Hw7
  iapply (runs_xwait m c ∅ (after 0)) $$ [Hx HO]
  · isplitr; · iexact Hkn
    isplitl [Hx]; · iexact Hx
    iexact HO
  iintro ⟨HO, Hx⟩
  iapply (runs_compute m c 0 rfl 0 ∅) $$ [HO Hw0 Hs]
  · isplitr; · iexact Hkn
    isplitl [HO]; · iexact HO
    isplitl [Hw0]; · iexact Hw0
    iexact Hs
  iintro ⟨HO, Hw0, Hs⟩
  iapply (runs_barrier m c rfl (after 0)) $$ [HO Hat Hc]
  · isplitr; · iexact Hkn
    isplitl [HO]; · iexact HO
    isplitl [Hat]; · iexact Hat
    iexact Hc
  iintro ⟨HO, Hz, Hb⟩
  iapply (runs_ret c _)
  iapply Hk
  isplitl [HO]; · iexact HO
  isplitl [Hb]; · iexact Hb
  isplitl [Hz]; · iexact Hz
  isplitl [Hx]; · iexact Hx
  isplitl [Hw0]; · iexact Hw0
  isplitl [Hs]; · iexact Hs
  iexact Hw7

/-- Block 0 is sent and block 1 computed. -/
theorem part5 {Q : BitVec 32 → sProp 𝕄} (v2 v108 : BitVec 32) :
    iprop(known m ∗ sends (F := F) c 0 ∗ sFull m c 0 ∗ fly c (wS 1) ∗ sReady (F := F) c 1)
      ⊢ iprop(((sends (F := F) c 1 ∗ fly c (sS 0) ∗ wDone m c 1 ∗ sFull m c 1) -∗ Q (Scalar.xori v2 2#32))
        -∗ Runs c (app (k0_part5 (F := F)) c v2 (scale m c) (k0_pay2 (xin m c)) v108) Q) := by
  unfold app Runs
  simp only [k0_part5_eq_skeleton]; unfold k0_part5_skel
  simp only [Prog.lift, Prog.bind_op, Prog.bind_ret, Prog.pure_eq_ret]
  iintro ⟨#Hkn, HO, Hp, Hw, Hs⟩ Hk
  iapply (runs_round m c 0 1 (dev8_eq c) (off3_eq c) rfl) $$ [HO Hp Hw Hs]
  · isplitr; · iexact Hkn
    isplitl [HO]; · iexact HO
    isplitl [Hp]; · iexact Hp
    isplitl [Hw]; · iexact Hw
    iexact Hs
  iintro ⟨HO, Hp, Hw, Hs⟩
  iapply (runs_ret c _)
  iapply Hk
  isplitl [HO]; · iexact HO
  isplitl [Hp]; · iexact Hp
  isplitl [Hw]; · iexact Hw
  iexact Hs

/-- Block 1 is sent and block 2 computed. -/
theorem part6 {Q : (Σ' (v170 : BitVec 32), BitVec 32) → sProp 𝕄} (v2 v138 : BitVec 32) :
    iprop(known m ∗ sends (F := F) c 1 ∗ sFull m c 1 ∗ fly c (wS 2) ∗ sReady (F := F) c 2)
      ⊢ iprop(((sends (F := F) c 2 ∗ fly c (sS 1) ∗ wDone m c 2 ∗ sFull m c 2) -∗ Q ⟨Scalar.muli (Scalar.xori v2 5#32) 1#32, 0#32⟩)
        -∗ Runs c (app (k0_part6 (F := F)) c v2 (scale m c) (k0_pay2 (xin m c)) v138) Q) := by
  unfold app Runs
  simp only [k0_part6_eq_skeleton]; unfold k0_part6_skel
  simp only [Prog.lift, Prog.bind_op, Prog.bind_ret, Prog.pure_eq_ret]
  iintro ⟨#Hkn, HO, Hp, Hw, Hs⟩ Hk
  iapply (runs_round m c 1 2 (dev9_eq c) (off3_eq c) rfl) $$ [HO Hp Hw Hs]
  · isplitr; · iexact Hkn
    isplitl [HO]; · iexact HO
    isplitl [Hp]; · iexact Hp
    isplitl [Hw]; · iexact Hw
    iexact Hs
  iintro ⟨HO, Hp, Hw, Hs⟩
  iapply (runs_ret c _)
  iapply Hk
  isplitl [HO]; · iexact HO
  isplitl [Hp]; · iexact Hp
  isplitl [Hw]; · iexact Hw
  iexact Hs

/-- Block 2 is sent and block 3 computed. -/
theorem part7 {Q : PUnit → sProp 𝕄} (v2 v170 w : BitVec 32) :
    iprop(known m ∗ sends (F := F) c 2 ∗ sFull m c 2 ∗ fly c (wS 3) ∗ sReady (F := F) c 3)
      ⊢ iprop(((sends (F := F) c 3 ∗ fly c (sS 2) ∗ wDone m c 3 ∗ sFull m c 3) -∗ Q ⟨⟩)
        -∗ Runs c (app (k0_part7 (F := F)) c v2 (scale m c) (k0_pay2 (xin m c)) v170 w) Q) := by
  unfold app Runs
  simp only [k0_part7_eq_skeleton]; unfold k0_part7_skel
  simp only [Prog.lift, Prog.bind_op, Prog.bind_ret, Prog.pure_eq_ret]
  iintro ⟨#Hkn, HO, Hp, Hw, Hs⟩ Hk
  iapply (runs_round m c 2 3 (dev10_eq c) (off3_eq c) rfl) $$ [HO Hp Hw Hs]
  · isplitr; · iexact Hkn
    isplitl [HO]; · iexact HO
    isplitl [Hp]; · iexact Hp
    isplitl [Hw]; · iexact Hw
    iexact Hs
  iintro ⟨HO, Hp, Hw, Hs⟩
  iapply (runs_ret c _)
  iapply Hk
  isplitl [HO]; · iexact HO
  isplitl [Hp]; · iexact Hp
  isplitl [Hw]; · iexact Hw
  iexact Hs

/-- Block 3 is sent and block 4 computed. -/
theorem part8 {Q : PUnit → sProp 𝕄} (v2 : BitVec 32) :
    iprop(known m ∗ sends (F := F) c 3 ∗ sFull m c 3 ∗ fly c (wS 4) ∗ sReady (F := F) c 4)
      ⊢ iprop(((sends (F := F) c 4 ∗ fly c (sS 3) ∗ wDone m c 4 ∗ sFull m c 4) -∗ Q ⟨⟩)
        -∗ Runs c (app (k0_part8 (F := F)) c v2 (scale m c) (k0_pay2 (xin m c))) Q) := by
  unfold app Runs
  simp only [k0_part8_eq_skeleton]; unfold k0_part8_skel
  simp only [Prog.lift, Prog.bind_op, Prog.bind_ret, Prog.pure_eq_ret]
  iintro ⟨#Hkn, HO, Hp, Hw, Hs⟩ Hk
  iapply (runs_round m c 3 4 (dev11_eq c) (off3_eq c) rfl) $$ [HO Hp Hw Hs]
  · isplitr; · iexact Hkn
    isplitl [HO]; · iexact HO
    isplitl [Hp]; · iexact Hp
    isplitl [Hw]; · iexact Hw
    iexact Hs
  iintro ⟨HO, Hp, Hw, Hs⟩
  iapply (runs_ret c _)
  iapply Hk
  isplitl [HO]; · iexact HO
  isplitl [Hp]; · iexact Hp
  isplitl [Hw]; · iexact Hw
  iexact Hs

/-- Block 4 is sent and block 5 computed. -/
theorem part9 {Q : PUnit → sProp 𝕄} (v2 : BitVec 32) :
    iprop(known m ∗ sends (F := F) c 4 ∗ sFull m c 4 ∗ fly c (wS 5) ∗ sReady (F := F) c 5)
      ⊢ iprop(((sends (F := F) c 5 ∗ fly c (sS 4) ∗ wDone m c 5 ∗ sFull m c 5) -∗ Q ⟨⟩)
        -∗ Runs c (app (k0_part9 (F := F)) c v2 (scale m c) (k0_pay2 (xin m c))) Q) := by
  unfold app Runs
  simp only [k0_part9_eq_skeleton]; unfold k0_part9_skel
  simp only [Prog.lift, Prog.bind_op, Prog.bind_ret, Prog.pure_eq_ret]
  iintro ⟨#Hkn, HO, Hp, Hw, Hs⟩ Hk
  iapply (runs_round m c 4 5 (dev12_eq c) (off3_eq c) rfl) $$ [HO Hp Hw Hs]
  · isplitr; · iexact Hkn
    isplitl [HO]; · iexact HO
    isplitl [Hp]; · iexact Hp
    isplitl [Hw]; · iexact Hw
    iexact Hs
  iintro ⟨HO, Hp, Hw, Hs⟩
  iapply (runs_ret c _)
  iapply Hk
  isplitl [HO]; · iexact HO
  isplitl [Hp]; · iexact Hp
  isplitl [Hw]; · iexact Hw
  iexact Hs

/-- Block 5 is sent, and block 6 is computed and sent. -/
theorem part10 {Q : PUnit → sProp 𝕄} (v2 : BitVec 32) :
    iprop(known m ∗ sends (F := F) c 5 ∗ sFull m c 5 ∗ fly c (wS 6) ∗ sReady (F := F) c 6)
      ⊢ iprop(((sends (F := F) c 7 ∗ fly c (sS 5) ∗ wDone m c 6 ∗ fly c (sS 6)) -∗ Q ⟨⟩)
        -∗ Runs c (app (k0_part10 (F := F)) c v2 (scale m c) (k0_pay2 (xin m c))) Q) := by
  unfold app Runs
  simp only [k0_part10_eq_skeleton]; unfold k0_part10_skel
  simp only [Prog.lift, Prog.bind_op, Prog.bind_ret, Prog.pure_eq_ret]
  iintro ⟨#Hkn, HO, Hp, Hw, Hs⟩ Hk
  iapply (runs_round m c 5 6 (dev13_eq c) (off3_eq c) rfl) $$ [HO Hp Hw Hs]
  · isplitr; · iexact Hkn
    isplitl [HO]; · iexact HO
    isplitl [Hp]; · iexact Hp
    isplitl [Hw]; · iexact Hw
    iexact Hs
  iintro ⟨HO, Hp, Hw, Hs⟩
  iapply (runs_next_send m c 6 (dev14_eq c) (off3_eq c)) $$ [HO Hs]
  · isplitr; · iexact Hkn
    isplitl [HO]; · iexact HO
    iexact Hs
  iintro ⟨HO, Hs⟩
  iapply (runs_ret c _)
  iapply Hk
  isplitl [HO]; · iexact HO
  isplitl [Hp]; · iexact Hp
  isplitl [Hw]; · iexact Hw
  iexact Hs

/-- The device's own block is computed and its copy to the result starts. -/
theorem part11 {Q : BitVec 32 → sProp 𝕄} (v2 : BitVec 32) :
    iprop(known m ∗ quiet (F := F) c ∗ fly c (wS 7) ∗ oReady (F := F) c 7)
      ⊢ iprop(((quiet (F := F) c ∗ wDone m c 7 ∗ fly c (oS 7)) -∗ Q (Scalar.xori v2 6#32))
        -∗ Runs c (app (k0_part11 (F := F)) c v2 (scale m c) (k0_pay2 (xin m c))) Q) := by
  unfold app Runs
  simp only [k0_part11_eq_skeleton]; unfold k0_part11_skel
  simp only [Prog.lift, Prog.bind_op, Prog.bind_ret, Prog.pure_eq_ret]
  iintro ⟨#Hkn, HO, Hw, Ho7⟩ Hk
  iapply (runs_weights m c 7 ∅ ∅) $$ [Hw HO]
  · isplitr; · iexact Hkn
    isplitl [Hw]; · iexact Hw
    iexact HO
  iintro ⟨HO, Hw⟩
  iapply (runs_out m c 7 (outSlot_own m c) (off3_own c)) $$ [Ho7]
  · isplitr; · iexact Hkn
    iexact Ho7
  iintro Ho7
  iapply (runs_ret c _)
  iapply Hk
  isplitl [HO]; · iexact HO
  isplitl [Hw]; · iexact Hw
  iexact Ho7

/-- Block 0 is received and its copy to the result starts; block 1 is received. -/
theorem part12 {Q : FVec F S512x256 .f32 → sProp 𝕄} (v2 v : BitVec 32) :
    iprop(known m ∗ quiet (F := F) c ∗ fly c (rS 0) ∗ fly c (rS 1) ∗ oReady (F := F) c 0)
      ⊢ iprop(((quiet (F := F) c ∗ rDone m c 0 ∗ rDone m c 1 ∗ fly c (oS 0)) -∗ Q (k0_pay12 (chunk m (pr c (up 1)) c)))
        -∗ Runs c (app (k0_part12 (F := F)) c v2 v) Q) := by
  unfold app Runs
  simp only [k0_part12_eq_skeleton]; unfold k0_part12_skel
  simp only [Prog.lift, Prog.bind_op, Prog.bind_ret, Prog.pure_eq_ret]
  iintro ⟨#Hkn, HO, Hr0, Hr1, Ho0⟩ Hk
  iapply (runs_recv m c 0 (off4_eq c 0) (off5_eq c 0)) $$ [HO Hr0]
  · isplitr; · iexact Hkn
    isplitl [HO]; · iexact HO
    iexact Hr0
  iintro ⟨HO, Hr0⟩
  iapply (runs_out m c 0 (outSlot_up m c 0) (off4_eq c 0)) $$ [Ho0]
  · isplitr; · iexact Hkn
    iexact Ho0
  iintro Ho0
  iapply (runs_recv m c 1 (off4_eq c 1) (off5_eq c 1)) $$ [HO Hr1]
  · isplitr; · iexact Hkn
    isplitl [HO]; · iexact HO
    iexact Hr1
  iintro ⟨HO, Hr1⟩
  iapply (runs_ret c _)
  iapply Hk
  isplitl [HO]; · iexact HO
  isplitl [Hr0]; · iexact Hr0
  isplitl [Hr1]; · iexact Hr1
  iexact Ho0

/-- The copy of block 1 starts; block 2 is received and stored. -/
theorem part13 {Q : PUnit → sProp 𝕄} (v2 : BitVec 32) :
    iprop(known m ∗ quiet (F := F) c ∗ oReady (F := F) c 1 ∗ fly c (rS 2) ∗ oReady (F := F) c 2)
      ⊢ iprop(((quiet (F := F) c ∗ fly c (oS 1) ∗ rDone m c 2 ∗ oFull m c 2) -∗ Q ⟨⟩)
        -∗ Runs c (app (k0_part13 (F := F)) c v2 (k0_pay12 (chunk m (pr c (up 1)) c))) Q) := by
  unfold app Runs
  simp only [k0_part13_eq_skeleton]; unfold k0_part13_skel
  simp only [Prog.lift, Prog.bind_op, Prog.bind_ret, Prog.pure_eq_ret]
  iintro ⟨#Hkn, HO, Ho1, Hr2, Ho2⟩ Hk
  iapply (runs_out m c 1 (outSlot_up m c 1) (off4_eq c 1)) $$ [Ho1]
  · isplitr; · iexact Hkn
    iexact Ho1
  iintro Ho1
  iapply (runs_recv m c 2 (off4_eq c 2) (off5_eq c 2)) $$ [HO Hr2]
  · isplitr; · iexact Hkn
    isplitl [HO]; · iexact HO
    iexact Hr2
  iintro ⟨HO, Hr2⟩
  iapply (runs_ostore m c 2 (outSlot_up m c 2)) $$ Ho2
  iintro Ho2
  iapply (runs_ret c _)
  iapply Hk
  isplitl [HO]; · iexact HO
  isplitl [Ho1]; · iexact Ho1
  isplitl [Hr2]; · iexact Hr2
  iexact Ho2

/-- The copy of block 2 starts; block 3 is received and its copy starts. -/
theorem part14 {Q : BitVec 32 → sProp 𝕄} (v2 : BitVec 32) :
    iprop(known m ∗ quiet (F := F) c ∗ oFull m c 2 ∗ fly c (rS 3) ∗ oReady (F := F) c 3)
      ⊢ iprop(((quiet (F := F) c ∗ fly c (oS 2) ∗ rDone m c 3 ∗ fly c (oS 3)) -∗ Q (Scalar.xori v2 1#32))
        -∗ Runs c (app (k0_part14 (F := F)) c v2) Q) := by
  unfold app Runs
  simp only [k0_part14_eq_skeleton]; unfold k0_part14_skel
  simp only [Prog.lift, Prog.bind_op, Prog.bind_ret, Prog.pure_eq_ret]
  iintro ⟨#Hkn, HO, Ho2, Hr3, Ho3⟩ Hk
  iapply (runs_ocopy m c 2 (off4_eq c 2)) $$ [Ho2]
  · isplitr; · iexact Hkn
    iexact Ho2
  iintro Ho2
  iapply (runs_recv m c 3 (off4_eq c 3) (off5_eq c 3)) $$ [HO Hr3]
  · isplitr; · iexact Hkn
    isplitl [HO]; · iexact HO
    iexact Hr3
  iintro ⟨HO, Hr3⟩
  iapply (runs_out m c 3 (outSlot_up m c 3) (off4_eq c 3)) $$ [Ho3]
  · isplitr; · iexact Hkn
    iexact Ho3
  iintro Ho3
  iapply (runs_ret c _)
  iapply Hk
  isplitl [HO]; · iexact HO
  isplitl [Ho2]; · iexact Ho2
  isplitl [Hr3]; · iexact Hr3
  iexact Ho3

/-- Block 4 is received and its copy starts; block 5 arrives. -/
theorem part15 {Q : PUnit → sProp 𝕄} (v2 v : BitVec 32) :
    iprop(known m ∗ quiet (F := F) c ∗ fly c (rS 4) ∗ oReady (F := F) c 4 ∗ fly c (rS 5))
      ⊢ iprop(((quiet (F := F) c ∗ rDone m c 4 ∗ fly c (oS 4) ∗ rDone m c 5) -∗ Q ⟨⟩)
        -∗ Runs c (app (k0_part15 (F := F)) c v2 v) Q) := by
  unfold app Runs
  simp only [k0_part15_eq_skeleton]; unfold k0_part15_skel
  simp only [Prog.lift, Prog.bind_op, Prog.bind_ret, Prog.pure_eq_ret]
  iintro ⟨#Hkn, HO, Hr4, Ho4, Hr5⟩ Hk
  iapply (runs_recv m c 4 (off4_eq c 4) (off5_eq c 4)) $$ [HO Hr4]
  · isplitr; · iexact Hkn
    isplitl [HO]; · iexact HO
    iexact Hr4
  iintro ⟨HO, Hr4⟩
  iapply (runs_out m c 4 (outSlot_up m c 4) (off4_eq c 4)) $$ [Ho4]
  · isplitr; · iexact Hkn
    iexact Ho4
  iintro Ho4
  iapply (runs_rwait m c 5 (off4_eq c 5)) $$ [Hr5 HO]
  · isplitr; · iexact Hkn
    isplitl [Hr5]; · iexact Hr5
    iexact HO
  iintro ⟨HO, Hr5⟩
  iapply (runs_ret c _)
  iapply Hk
  isplitl [HO]; · iexact HO
  isplitl [Hr4]; · iexact Hr4
  isplitl [Ho4]; · iexact Ho4
  iexact Hr5

/-- The copy of block 5 starts; block 6 is received and stored. -/
theorem part16 {Q : PUnit → sProp 𝕄} (v2 : BitVec 32) :
    iprop(known m ∗ quiet (F := F) c ∗ rDone m c 5 ∗ oReady (F := F) c 5 ∗ fly c (rS 6) ∗ oReady (F := F) c 6)
      ⊢ iprop(((quiet (F := F) c ∗ rDone m c 5 ∗ fly c (oS 5) ∗ rDone m c 6 ∗ oFull m c 6) -∗ Q ⟨⟩)
        -∗ Runs c (app (k0_part16 (F := F)) c v2) Q) := by
  unfold app Runs
  simp only [k0_part16_eq_skeleton]; unfold k0_part16_skel
  simp only [Prog.lift, Prog.bind_op, Prog.bind_ret, Prog.pure_eq_ret]
  iintro ⟨#Hkn, HO, Hr5, Ho5, Hr6, Ho6⟩ Hk
  iapply (runs_rload m c 5 (off5_eq c 5)) $$ Hr5
  iintro Hr5
  iapply (runs_out m c 5 (outSlot_up m c 5) (off4_eq c 5)) $$ [Ho5]
  · isplitr; · iexact Hkn
    iexact Ho5
  iintro Ho5
  iapply (runs_recv m c 6 (off4_eq c 6) (off5_eq c 6)) $$ [HO Hr6]
  · isplitr; · iexact Hkn
    isplitl [HO]; · iexact HO
    iexact Hr6
  iintro ⟨HO, Hr6⟩
  iapply (runs_ostore m c 6 (outSlot_up m c 6)) $$ Ho6
  iintro Ho6
  iapply (runs_ret c _)
  iapply Hk
  isplitl [HO]; · iexact HO
  isplitl [Hr5]; · iexact Hr5
  isplitl [Ho5]; · iexact Ho5
  isplitl [Hr6]; · iexact Hr6
  iexact Ho6

/-- The copy of block 6 starts; the copies of slots 7, 0, 1 and 2 finish. -/
theorem part17 {Q : PUnit → sProp 𝕄} :
    iprop(known m ∗ quiet (F := F) c ∗ oFull m c 6 ∗ fly c (oS 7) ∗ fly c (oS 0) ∗ fly c (oS 1) ∗ fly c (oS 2))
      ⊢ iprop(((quiet (F := F) c ∗ fly c (oS 6) ∗ oDone m c 7 ∗ oDone m c 0 ∗ oDone m c 1 ∗ oDone m c 2) -∗ Q ⟨⟩)
        -∗ Runs c (app (k0_part17 (F := F)) c) Q) := by
  unfold app Runs
  simp only [k0_part17_eq_skeleton]; unfold k0_part17_skel
  simp only [Prog.lift, Prog.bind_op, Prog.bind_ret, Prog.pure_eq_ret]
  iintro ⟨#Hkn, HO, Ho6, Ho7, Ho0, Ho1, Ho2⟩ Hk
  iapply (runs_ocopy m c 6 (off4_eq c 6)) $$ [Ho6]
  · isplitr; · iexact Hkn
    iexact Ho6
  iintro Ho6
  iapply (runs_owait m c 7 (off3_own c)) $$ [Ho7 HO]
  · isplitr; · iexact Hkn
    isplitl [Ho7]; · iexact Ho7
    iexact HO
  iintro ⟨HO, Ho7⟩
  iapply (runs_owait m c 0 (off4_eq c 0)) $$ [Ho0 HO]
  · isplitr; · iexact Hkn
    isplitl [Ho0]; · iexact Ho0
    iexact HO
  iintro ⟨HO, Ho0⟩
  iapply (runs_owait m c 1 (off4_eq c 1)) $$ [Ho1 HO]
  · isplitr; · iexact Hkn
    isplitl [Ho1]; · iexact Ho1
    iexact HO
  iintro ⟨HO, Ho1⟩
  iapply (runs_owait m c 2 (off4_eq c 2)) $$ [Ho2 HO]
  · isplitr; · iexact Hkn
    isplitl [Ho2]; · iexact Ho2
    iexact HO
  iintro ⟨HO, Ho2⟩
  iapply (runs_ret c _)
  iapply Hk
  isplitl [HO]; · iexact HO
  isplitl [Ho6]; · iexact Ho6
  isplitl [Ho7]; · iexact Ho7
  isplitl [Ho0]; · iexact Ho0
  isplitl [Ho1]; · iexact Ho1
  iexact Ho2

/-- The copies of slots 3 to 6 finish, and block 0 has left. -/
theorem part18 {Q : PUnit → sProp 𝕄} :
    iprop(known m ∗ quiet (F := F) c ∗ fly c (oS 3) ∗ fly c (oS 4) ∗ fly c (oS 5) ∗ fly c (oS 6) ∗ fly c (sS 0))
      ⊢ iprop(((quiet (F := F) c ∗ oDone m c 3 ∗ oDone m c 4 ∗ oDone m c 5 ∗ oDone m c 6 ∗ sDone m c 0) -∗ Q ⟨⟩)
        -∗ Runs c (app (k0_part18 (F := F)) c) Q) := by
  unfold app Runs
  simp only [k0_part18_eq_skeleton]; unfold k0_part18_skel
  simp only [Prog.lift, Prog.bind_op, Prog.bind_ret, Prog.pure_eq_ret]
  iintro ⟨#Hkn, HO, Ho3, Ho4, Ho5, Ho6, Hs0⟩ Hk
  iapply (runs_owait m c 3 (off4_eq c 3)) $$ [Ho3 HO]
  · isplitr; · iexact Hkn
    isplitl [Ho3]; · iexact Ho3
    iexact HO
  iintro ⟨HO, Ho3⟩
  iapply (runs_owait m c 4 (off4_eq c 4)) $$ [Ho4 HO]
  · isplitr; · iexact Hkn
    isplitl [Ho4]; · iexact Ho4
    iexact HO
  iintro ⟨HO, Ho4⟩
  iapply (runs_owait m c 5 (off4_eq c 5)) $$ [Ho5 HO]
  · isplitr; · iexact Hkn
    isplitl [Ho5]; · iexact Ho5
    iexact HO
  iintro ⟨HO, Ho5⟩
  iapply (runs_owait m c 6 (off4_eq c 6)) $$ [Ho6 HO]
  · isplitr; · iexact Hkn
    isplitl [Ho6]; · iexact Ho6
    iexact HO
  iintro ⟨HO, Ho6⟩
  iapply (runs_swait m c 0) $$ [Hs0 HO]
  · isplitr; · iexact Hkn
    isplitl [Hs0]; · iexact Hs0
    iexact HO
  iintro ⟨HO, Hs0⟩
  iapply (runs_ret c _)
  iapply Hk
  isplitl [HO]; · iexact HO
  isplitl [Ho3]; · iexact Ho3
  isplitl [Ho4]; · iexact Ho4
  isplitl [Ho5]; · iexact Ho5
  isplitl [Ho6]; · iexact Ho6
  iexact Hs0

/-- Blocks 1 to 5 have left. -/
theorem part19 {Q : PUnit → sProp 𝕄} :
    iprop(known m ∗ quiet (F := F) c ∗ fly c (sS 1) ∗ fly c (sS 2) ∗ fly c (sS 3) ∗ fly c (sS 4) ∗ fly c (sS 5))
      ⊢ iprop(((quiet (F := F) c ∗ sDone m c 1 ∗ sDone m c 2 ∗ sDone m c 3 ∗ sDone m c 4 ∗ sDone m c 5) -∗ Q ⟨⟩)
        -∗ Runs c (app (k0_part19 (F := F)) c) Q) := by
  unfold app Runs
  simp only [k0_part19_eq_skeleton]; unfold k0_part19_skel
  simp only [Prog.lift, Prog.bind_op, Prog.bind_ret, Prog.pure_eq_ret]
  iintro ⟨#Hkn, HO, Hs1, Hs2, Hs3, Hs4, Hs5⟩ Hk
  iapply (runs_swait m c 1) $$ [Hs1 HO]
  · isplitr; · iexact Hkn
    isplitl [Hs1]; · iexact Hs1
    iexact HO
  iintro ⟨HO, Hs1⟩
  iapply (runs_swait m c 2) $$ [Hs2 HO]
  · isplitr; · iexact Hkn
    isplitl [Hs2]; · iexact Hs2
    iexact HO
  iintro ⟨HO, Hs2⟩
  iapply (runs_swait m c 3) $$ [Hs3 HO]
  · isplitr; · iexact Hkn
    isplitl [Hs3]; · iexact Hs3
    iexact HO
  iintro ⟨HO, Hs3⟩
  iapply (runs_swait m c 4) $$ [Hs4 HO]
  · isplitr; · iexact Hkn
    isplitl [Hs4]; · iexact Hs4
    iexact HO
  iintro ⟨HO, Hs4⟩
  iapply (runs_swait m c 5) $$ [Hs5 HO]
  · isplitr; · iexact Hkn
    isplitl [Hs5]; · iexact Hs5
    iexact HO
  iintro ⟨HO, Hs5⟩
  iapply (runs_ret c _)
  iapply Hk
  isplitl [HO]; · iexact HO
  isplitl [Hs1]; · iexact Hs1
  isplitl [Hs2]; · iexact Hs2
  isplitl [Hs3]; · iexact Hs3
  isplitl [Hs4]; · iexact Hs4
  iexact Hs5

end Cert.Scatter

end
-- ==== Proof.Body.lean ====
/-
# The kernel's body

The body at one device, run window after window: it starts with every slot ready and ends with every slot done.
-/
module

public import proofs.«01_k».proof.Proof.Parts

@[expose] public section

set_option maxRecDepth 65536

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-- A separating product over eight slots is the eight factors written out. -/
theorem eight (Φ : Fin 8 → sProp 𝕄) :
    BI.bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
/-- A separating product over seven slots is the seven factors written out. -/
theorem seven (Φ : Fin 7 → sProp 𝕄) :
    BI.bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- The two scalars in the scalar memory. -/
def scalars : sProp 𝕄 :=
  iprop(owns (c : Thread nD τ) (Memref.whole cc0_stg0_0) fullShare (m ((c : Thread nD τ).loc main_arg2))
    ∗ owns (c : Thread nD τ) (Memref.whole cc0_stg1_0) fullShare (m ((c : Thread nD τ).loc main_arg3)))

/-- Every slot before the body, besides the promises: -/
def ready : sProp 𝕄 :=
  iprop((owns (c : Thread nD τ) xA fullShare (xin m c) ∗ held (c : Thread nD τ) xB ∗ fresh c xS)
    ∗ (BI.bigSep Finset.univ fun q : Fin 8 => wReady m c q) ∗ (BI.bigSep Finset.univ fun p : Fin 7 => sReady (F := F) c p)
    ∗ (BI.bigSep Finset.univ fun p : Fin 7 => fly (F := F) c (rS p)) ∗ (BI.bigSep Finset.univ fun q : Fin 8 => oReady (F := F) c q)
    ∗ atPos ER (barCell c) 0 ∅ 0 ∗ cred (tallyAt (barCell c) () 7))

/-- and every slot after it. -/
def done : sProp 𝕄 :=
  iprop((semVal (dCell c xS) 0 ∗ pay m c .x)
    ∗ (BI.bigSep Finset.univ fun q : Fin 8 => wDone m c q) ∗ (BI.bigSep Finset.univ fun p : Fin 7 => sDone m c p)
    ∗ (BI.bigSep Finset.univ fun p : Fin 7 => rDone m c p) ∗ (BI.bigSep Finset.univ fun q : Fin 8 => oDone m c q)
    ∗ semVal (barCell c) 0)

set_option maxHeartbeats 1000000 in
/-- The body takes every slot from ready to done, and leaves no promise open. -/
theorem body_run {Q : PUnit → sProp 𝕄} :
    iprop(known m ∗ scalars m c ∗ signals (F := F) c 0 ∗ ready m c)
      ⊢ iprop(((scalars m c ∗ quiet (F := F) c ∗ done m c) -∗ Q ⟨⟩) -∗ Runs c (app (cc0_body (F := F))) Q) := by
  unfold app ready done scalars
  rw [eight, eight, eight, eight, seven, seven, seven, seven]
  rw [cc0_body_eq_skeleton]
  unfold cc0_body_skel
  iintro ⟨#Hkn, ⟨Ha, Hb⟩, HO, ⟨Hx, HX, Hfx⟩, ⟨Hw0, Hw1, Hw2, Hw3, Hw4, Hw5, Hw6, Hw7⟩, ⟨Hs0, Hs1, Hs2, Hs3, Hs4, Hs5, Hs6⟩,
    ⟨Hr0, Hr1, Hr2, Hr3, Hr4, Hr5, Hr6⟩, ⟨Ho0, Ho1, Ho2, Ho3, Ho4, Ho5, Ho6, Ho7⟩, Hat, Hc⟩ Hk
  iapply (runs_bind c _ _)
  iapply (part1 m c) $$ [Ha Hb HO]
  · isplitr; · iexact Hkn
    isplitl [Ha]; · iexact Ha
    isplitl [Hb]; · iexact Hb
    iexact HO
  iintro ⟨Ha, Hb, HO⟩
  try dsimp only
  iapply (runs_bind c _ _)
  iapply (part2 m c _) $$ [HO Hx HX Hfx Hw0 Hw1 Hw2]
  · isplitr; · iexact Hkn
    isplitl [HO]; · iexact HO
    isplitl [Hx]; · iexact Hx
    isplitl [HX]; · iexact HX
    isplitl [Hfx]; · iexact Hfx
    isplitl [Hw0]; · iexact Hw0
    isplitl [Hw1]; · iexact Hw1
    iexact Hw2
  iintro ⟨HO, Hx, Hw0, Hw1, Hw2⟩
  try dsimp only
  iapply (runs_bind c _ _)
  iapply (part3 m c _ _ _) $$ [Hw3 Hw4 Hw5 Hw6]
  · isplitr; · iexact Hkn
    isplitl [Hw3]; · iexact Hw3
    isplitl [Hw4]; · iexact Hw4
    isplitl [Hw5]; · iexact Hw5
    iexact Hw6
  iintro ⟨Hw3, Hw4, Hw5, Hw6⟩
  try dsimp only
  unfold signals
  icases HO with ⟨HO, -⟩
  iapply (runs_bind c _ _)
  iapply (part4 m c _) $$ [HO Hw7 Hx Hw0 Hs0 Hat Hc]
  · isplitr; · iexact Hkn
    isplitl [HO]; · iexact HO
    isplitl [Hw7]; · iexact Hw7
    isplitl [Hx]; · iexact Hx
    isplitl [Hw0]; · iexact Hw0
    isplitl [Hs0]; · iexact Hs0
    isplitl [Hat]; · iexact Hat
    iexact Hc
  iintro ⟨HO, Hbs, Hz, Hx, Hw0, Hs0, Hw7⟩
  try dsimp only
  ihave HO := (show iprop(owing c ∅ (after 0) ∗ BI.bigSep Finset.univ fun p : Fin 7 => barPay (F := F) c p) ⊢ sends (F := F) c 0 from by
    unfold sends; rw [after_zero]) $$ [HO Hbs]
  · isplitl [HO] <;> iassumption
  iapply (runs_bind c _ _)
  iapply (part5 m c _ _) $$ [HO Hs0 Hw1 Hs1]
  · isplitr; · iexact Hkn
    isplitl [HO]; · iexact HO
    isplitl [Hs0]; · iexact Hs0
    isplitl [Hw1]; · iexact Hw1
    iexact Hs1
  iintro ⟨HO, Hs0, Hw1, Hs1⟩
  try dsimp only
  iapply (runs_bind c _ _)
  iapply (part6 m c _ _) $$ [HO Hs1 Hw2 Hs2]
  · isplitr; · iexact Hkn
    isplitl [HO]; · iexact HO
    isplitl [Hs1]; · iexact Hs1
    isplitl [Hw2]; · iexact Hw2
    iexact Hs2
  iintro ⟨HO, Hs1, Hw2, Hs2⟩
  try dsimp only
  iapply (runs_bind c _ _)
  iapply (part7 m c _ _ _) $$ [HO Hs2 Hw3 Hs3]
  · isplitr; · iexact Hkn
    isplitl [HO]; · iexact HO
    isplitl [Hs2]; · iexact Hs2
    isplitl [Hw3]; · iexact Hw3
    iexact Hs3
  iintro ⟨HO, Hs2, Hw3, Hs3⟩
  try dsimp only
  iapply (runs_bind c _ _)
  iapply (part8 m c _) $$ [HO Hs3 Hw4 Hs4]
  · isplitr; · iexact Hkn
    isplitl [HO]; · iexact HO
    isplitl [Hs3]; · iexact Hs3
    isplitl [Hw4]; · iexact Hw4
    iexact Hs4
  iintro ⟨HO, Hs3, Hw4, Hs4⟩
  try dsimp only
  iapply (runs_bind c _ _)
  iapply (part9 m c _) $$ [HO Hs4 Hw5 Hs5]
  · isplitr; · iexact Hkn
    isplitl [HO]; · iexact HO
    isplitl [Hs4]; · iexact Hs4
    isplitl [Hw5]; · iexact Hw5
    iexact Hs5
  iintro ⟨HO, Hs4, Hw5, Hs5⟩
  try dsimp only
  iapply (runs_bind c _ _)
  iapply (part10 m c _) $$ [HO Hs5 Hw6 Hs6]
  · isplitr; · iexact Hkn
    isplitl [HO]; · iexact HO
    isplitl [Hs5]; · iexact Hs5
    isplitl [Hw6]; · iexact Hw6
    iexact Hs6
  iintro ⟨HO, Hs5, Hw6, Hs6⟩
  try dsimp only
  unfold sends
  rw [after_seven]
  icases HO with ⟨HO, -⟩
  iapply (runs_bind c _ _)
  iapply (part11 m c _) $$ [HO Hw7 Ho7]
  · isplitr; · iexact Hkn
    isplitl [HO]; · iexact HO
    isplitl [Hw7]; · iexact Hw7
    iexact Ho7
  iintro ⟨HO, Hw7, Ho7⟩
  try dsimp only
  iapply (runs_bind c _ _)
  iapply (part12 m c _ _) $$ [HO Hr0 Hr1 Ho0]
  · isplitr; · iexact Hkn
    isplitl [HO]; · iexact HO
    isplitl [Hr0]; · iexact Hr0
    isplitl [Hr1]; · iexact Hr1
    iexact Ho0
  iintro ⟨HO, Hr0, Hr1, Ho0⟩
  try dsimp only
  iapply (runs_bind c _ _)
  iapply (part13 m c _) $$ [HO Ho1 Hr2 Ho2]
  · isplitr; · iexact Hkn
    isplitl [HO]; · iexact HO
    isplitl [Ho1]; · iexact Ho1
    isplitl [Hr2]; · iexact Hr2
    iexact Ho2
  iintro ⟨HO, Ho1, Hr2, Ho2⟩
  try dsimp only
  iapply (runs_bind c _ _)
  iapply (part14 m c _) $$ [HO Ho2 Hr3 Ho3]
  · isplitr; · iexact Hkn
    isplitl [HO]; · iexact HO
    isplitl [Ho2]; · iexact Ho2
    isplitl [Hr3]; · iexact Hr3
    iexact Ho3
  iintro ⟨HO, Ho2, Hr3, Ho3⟩
  try dsimp only
  iapply (runs_bind c _ _)
  iapply (part15 m c _ _) $$ [HO Hr4 Ho4 Hr5]
  · isplitr; · iexact Hkn
    isplitl [HO]; · iexact HO
    isplitl [Hr4]; · iexact Hr4
    isplitl [Ho4]; · iexact Ho4
    iexact Hr5
  iintro ⟨HO, Hr4, Ho4, Hr5⟩
  try dsimp only
  iapply (runs_bind c _ _)
  iapply (part16 m c _) $$ [HO Hr5 Ho5 Hr6 Ho6]
  · isplitr; · iexact Hkn
    isplitl [HO]; · iexact HO
    isplitl [Hr5]; · iexact Hr5
    isplitl [Ho5]; · iexact Ho5
    isplitl [Hr6]; · iexact Hr6
    iexact Ho6
  iintro ⟨HO, Hr5, Ho5, Hr6, Ho6⟩
  try dsimp only
  iapply (runs_bind c _ _)
  iapply (part17 m c) $$ [HO Ho6 Ho7 Ho0 Ho1 Ho2]
  · isplitr; · iexact Hkn
    isplitl [HO]; · iexact HO
    isplitl [Ho6]; · iexact Ho6
    isplitl [Ho7]; · iexact Ho7
    isplitl [Ho0]; · iexact Ho0
    isplitl [Ho1]; · iexact Ho1
    iexact Ho2
  iintro ⟨HO, Ho6, Ho7, Ho0, Ho1, Ho2⟩
  try dsimp only
  iapply (runs_bind c _ _)
  iapply (part18 m c) $$ [HO Ho3 Ho4 Ho5 Ho6 Hs0]
  · isplitr; · iexact Hkn
    isplitl [HO]; · iexact HO
    isplitl [Ho3]; · iexact Ho3
    isplitl [Ho4]; · iexact Ho4
    isplitl [Ho5]; · iexact Ho5
    isplitl [Ho6]; · iexact Ho6
    iexact Hs0
  iintro ⟨HO, Ho3, Ho4, Ho5, Ho6, Hs0⟩
  try dsimp only
  iapply (runs_bind c _ _)
  iapply (part19 m c) $$ [HO Hs1 Hs2 Hs3 Hs4 Hs5]
  · isplitr; · iexact Hkn
    isplitl [HO]; · iexact HO
    isplitl [Hs1]; · iexact Hs1
    isplitl [Hs2]; · iexact Hs2
    isplitl [Hs3]; · iexact Hs3
    isplitl [Hs4]; · iexact Hs4
    iexact Hs5
  iintro ⟨HO, Hs1, Hs2, Hs3, Hs4, Hs5⟩
  try dsimp only
  simp only [Prog.lift, Prog.bind_op, Prog.bind_ret, Prog.pure_eq_ret]
  iapply (runs_swait m c 6) $$ [Hs6 HO]
  · isplitr; · iexact Hkn
    isplitl [Hs6] <;> iassumption
  iintro ⟨HO, Hs6⟩
  iapply (runs_ret c _)
  iapply Hk
  isplitl [Ha Hb]
  · isplitl [Ha] <;> iassumption
  isplitl [HO]; · iexact HO
  isplitl [Hx]; · iexact Hx
  isplitl [Hw0 Hw1 Hw2 Hw3 Hw4 Hw5 Hw6 Hw7]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    iexact Hw7
  isplitl [Hs0 Hs1 Hs2 Hs3 Hs4 Hs5 Hs6]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hs6
  isplitl [Hr0 Hr1 Hr2 Hr3 Hr4 Hr5 Hr6]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    iexact Hr6
  isplitl [Ho0 Ho1 Ho2 Ho3 Ho4 Ho5 Ho6 Ho7]
  · isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    iexact Ho7
  iexact Hz

end Cert.Scatter

end
-- ==== Proof.Views.lean ====
/-
# Buffers and their parts

A buffer held whole is its slots, columns or rows held one by one, and back; and the result of a device, put together
from the blocks of rows it receives.
-/
module

public import proofs.«01_k».proof.Proof.Body

@[expose] public section

set_option maxRecDepth 65536

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Strips of a shape -/

/-- The rectangles of a family are disjoint and cover the shape. -/
structure Covers {T : Type} [Fintype T] [DecidableEq T] {sh : Shape} (r : T → Rect sh) : Prop where
  unit : ∀ t a, (r t).stride a = 1
  disjoint : ∀ t t', t ≠ t' → Disjoint (r t).set (r t').set
  cover : (Finset.univ : Finset T).biUnion (fun t => (r t).set) = Finset.univ

/-- Equal strips along one axis cover the shape. -/
theorem covers_strips {K : ℕ} {sh : Shape} (ax : Fin sh.rank) (w : ℕ) (hw : 0 < w) (hs : sh.size ax = K * w)
    (off : Fin K → Fin sh.rank → ℕ) (size : Fin sh.rank → ℕ) (inb : ∀ t a, off t a + size a ≤ sh.size a)
    (ho : ∀ t a, off t a = if a = ax then w * t.val else 0) (hz : ∀ a, size a = if a = ax then w else sh.size a) :
    Covers fun t : Fin K => Rect.unit (s := sh) (off t) size (inb t) where
  unit _ _ := rfl
  disjoint t t' h := by
    refine Finset.disjoint_left.mpr fun i hi hi' => h ?_
    have h1 := (Rect.mem_set_unit.mp hi) ax
    have h2 := (Rect.mem_set_unit.mp hi') ax
    rw [ho, hz, if_pos rfl, if_pos rfl] at h1 h2
    have e1 : (i ax).val / w = t.val := Nat.div_eq_of_lt_le (by rw [Nat.mul_comm]; exact h1.1) (by rw [Nat.mul_comm, Nat.mul_succ]; exact h1.2)
    have e2 : (i ax).val / w = t'.val := Nat.div_eq_of_lt_le (by rw [Nat.mul_comm]; exact h2.1) (by rw [Nat.mul_comm, Nat.mul_succ]; exact h2.2)
    exact Fin.ext (e1.symm.trans e2)
  cover := by
    refine Finset.eq_univ_iff_forall.mpr fun i => Finset.mem_biUnion.mpr ?_
    have hi : (i ax).val < w * K := lt_of_lt_of_eq (i ax).isLt (hs.trans (Nat.mul_comm K w))
    refine ⟨⟨(i ax).val / w, Nat.div_lt_of_lt_mul hi⟩, Finset.mem_univ _, Rect.mem_set_unit.mpr fun a => ?_⟩
    rw [ho, hz]
    by_cases ha : a = ax
    · subst ha
      rw [if_pos rfl, if_pos rfl]
      exact ⟨Nat.mul_div_le _ _, Nat.lt_mul_div_succ _ hw⟩
    · rw [if_neg ha, if_neg ha]
      exact ⟨Nat.zero_le _, by rw [Nat.zero_add]; exact (i a).isLt⟩

/-- The slots of the weights buffer are disjoint and cover it. -/
theorem covers_w : Covers wRect :=
  covers_strips (sh := S8x4096x256) 0 1 Nat.one_pos rfl (fun q => ![q.val, 0, 0]) S1x4096x256.size wInb
    (by decide) (by decide)
/-- The slots of the send buffer are disjoint and cover it. -/
theorem covers_s : Covers sRect :=
  covers_strips (sh := S7x512x256) 0 1 Nat.one_pos rfl (fun q => ![q.val, 0, 0]) S1x512x256.size sInb
    (by decide) (by decide)
/-- The slots of the output buffer are disjoint and cover it. -/
theorem covers_t : Covers tRect :=
  covers_strips (sh := S8x512x256) 0 1 Nat.one_pos rfl (fun q => ![q.val, 0, 0]) S1x512x256.size tInb
    (by decide) (by decide)
/-- The devices' columns are disjoint and cover the weights. -/
theorem covers_c : Covers cRect :=
  covers_strips (sh := S4096x2048) 1 256 (by decide) rfl (fun d => ![0, 256 * d.val]) S4096x256.size cInb
    (by decide) (by decide)
/-- The devices' rows are disjoint and cover a stacked result. -/
theorem covers_r : Covers rRect :=
  covers_strips (sh := S4096x256) 0 512 (by decide) rfl (fun d => ![512 * d.val, 0]) S512x256.size rInb
    (by decide) (by decide)

/-- An index of a rectangle, placed in the shape, lies in the rectangle. -/
theorem emb_mem {sh : Shape} (r : Rect sh) (k : r.shape.Idx) : r.emb k ∈ r.set :=
  r.map_emb_univ ▸ Finset.mem_map_of_mem _ (Finset.mem_univ k)

/-- A place that two rectangles share lies in the second. -/
theorem mem_of_emb {sh : Shape} {r r' : Rect sh} {k : r.shape.Idx} {k' : r'.shape.Idx} (h : r'.emb k' = r.emb k) :
    r.emb k ∈ r'.set := h ▸ emb_mem r' k'

/-! ## Holding a buffer by parts -/

section
variable {T : Type} [Fintype T] [DecidableEq T] (t : Thread nD τ) {sp : Space} {sh : Shape} {e : EltTy}
  (M : Memref sig t.2.kind sp sh e) {r : T → Rect sh}

/-- A buffer held in full gives its parts, each held in full. -/
theorem held_split (hr : Covers r) :
    (held (F := F) t M : sProp 𝕄) ⊢ BI.bigSep Finset.univ fun i => held (F := F) t (M.slice (r i) (hr.unit i)) := by
  unfold held
  iintro ⟨%X, H⟩
  have h := (owns_rects (Ix := Unit) (Name := ℕ) (U := UU) (Lvl := ℕ) t M fullShare r hr.unit hr.disjoint hr.cover X).trans
    (bigSep_mono fun i _ => (show owns t (M.slice (r i) (hr.unit i)) fullShare (fun j => X ((r i).emb j))
      ⊢ (iprop(∃ X, owns t (M.slice (r i) (hr.unit i)) fullShare X) : sProp 𝕄) from by iintro H; iexists _; iexact H))
  iapply h; iexact H

/-- The parts of a buffer, each held in full, give the buffer. -/
theorem held_join (hr : Covers r) :
    (BI.bigSep Finset.univ fun i => held (F := F) t (M.slice (r i) (hr.unit i)) : sProp 𝕄) ⊢ held (F := F) t M := by
  unfold held
  haveI : ∀ i, Nonempty ((r i).shape.Idx → Elt F e) := fun i => ⟨fun _ => Classical.choice inferInstance⟩
  have h := BI.bigSep_exists_pi (Finset.univ : Finset T) (fun i (X : (r i).shape.Idx → Elt F e) =>
    (owns t (M.slice (r i) (hr.unit i)) fullShare X : sProp 𝕄))
  iintro H
  ihave H := h $$ H
  icases H with ⟨%X, H⟩
  have hm : ∀ j : sh.Idx, ∃ (i : T) (k : (r i).shape.Idx), (r i).emb k = j := fun j => by
    obtain ⟨i, -, hi⟩ := Finset.mem_biUnion.mp (hr.cover.symm ▸ Finset.mem_univ j)
    obtain ⟨k, -, hk⟩ := Finset.mem_map.mp ((r i).map_emb_univ.symm ▸ hi)
    exact ⟨i, k, hk⟩
  let Y : sh.Idx → Elt F e := fun j => X (hm j).choose (hm j).choose_spec.choose
  have hY : ∀ i, X i = fun k => Y ((r i).emb k) := fun i => by
    funext k
    have h1 := (hm ((r i).emb k)).choose_spec.choose_spec
    by_cases hi : (hm ((r i).emb k)).choose = i
    · have : ∀ (i' : T) (k' : (r i').shape.Idx) (hi : i' = i), (r i').emb k' = (r i).emb k → X i k = X i' k' := by
        rintro i' k' rfl hk
        rw [(r i').emb.injective hk]
      exact this _ _ hi h1
    · refine absurd (?_ : (r i).emb k ∈ (r i).set) (Finset.disjoint_left.mp (hr.disjoint _ _ hi) ?_)
      · exact emb_mem (r i) k
      · exact mem_of_emb h1
  iexists Y
  have h2 := owns_of_rects (Ix := Unit) (Name := ℕ) (U := UU) (Lvl := ℕ) t M fullShare r hr.unit hr.disjoint hr.cover Y
  iapply h2
  rw [show (fun i => owns t (M.slice (r i) (hr.unit i)) fullShare (X i) : T → sProp 𝕄)
    = fun i => owns t (M.slice (r i) (hr.unit i)) fullShare (fun j => Y ((r i).emb j)) from funext fun i => by rw [hY i]]
  iexact H

/-- Dropping axes of length one changes nothing about what is held. -/
theorem held_squeeze (s' : Shape) (h : sh.Squeezes s') : (held (F := F) t (M.squeeze s' h) : sProp 𝕄) = held (F := F) t M := by
  unfold held
  refine BI.equiv_iff.mp ⟨(?_ : (_ : sProp 𝕄) ⊢ _), (?_ : (_ : sProp 𝕄) ⊢ _)⟩
  · iintro ⟨%X, H⟩
    have e : X = fun j => (fun i => X ((Shape.reshapeEquiv h.numel_eq).symm i)) (Shape.reshapeEquiv h.numel_eq j) := by
      funext j; simp only [Equiv.symm_apply_apply]
    rw [e]
    iexists (fun i => X ((Shape.reshapeEquiv h.numel_eq).symm i))
    ihave H := (show owns t (M.squeeze s' h) fullShare (fun j => (fun i => X ((Shape.reshapeEquiv h.numel_eq).symm i)) (Shape.reshapeEquiv h.numel_eq j))
        ⊢ (owns t M fullShare (fun i => X ((Shape.reshapeEquiv h.numel_eq).symm i)) : sProp 𝕄) from
      Idealize.SL.BI.BIBase.Entails.of_eq (owns_squeeze t M s' h fullShare fun i => X ((Shape.reshapeEquiv h.numel_eq).symm i))) $$ H
    iexact H
  · iintro ⟨%X, H⟩
    iexists (fun j => X (Shape.reshapeEquiv h.numel_eq j))
    iapply (show owns t M fullShare X ⊢ (owns t (M.squeeze s' h) fullShare (fun j => X (Shape.reshapeEquiv h.numel_eq j)) : sProp 𝕄) from by
      rw [owns_squeeze t M s' h fullShare])
    iexact H

/-- A buffer owned at known contents is held. -/
theorem held_of_owns (X : sh.Idx → Elt F e) : (owns t M fullShare X : sProp 𝕄) ⊢ held (F := F) t M := by
  unfold held; iintro H; iexists X; iexact H

end

variable (m : (ℓ : Loc nD τ sig) → Buf (Elt F) ℓ) (c : Dev nD)

/-- Held whole is held at some contents. -/
theorem held_whole (b : Ref sig .tc) :
    (held (F := F) (c : Thread nD τ) (Memref.whole b) : sProp 𝕄)
      = iprop(∃ f : Buf (Elt F) ((c : Thread nD τ).loc b), ((c : Thread nD τ).loc b) ↦{fullShare} f) := by
  unfold held
  refine BI.equiv_iff.mp ⟨(?_ : (_ : sProp 𝕄) ⊢ _), (?_ : (_ : sProp 𝕄) ⊢ _)⟩
  · iintro ⟨%X, H⟩
    iexists X
    rw [← owns_whole (c : Thread nD τ) b fullShare X]
    iexact H
  · iintro ⟨%X, H⟩
    iexists X
    rw [owns_whole (c : Thread nD τ) b fullShare X]
    iexact H

/-- A family over the devices is one over the slots. -/
theorem by_slots (Φ : Dev nD → sProp 𝕄) : (BI.bigSep Finset.univ Φ : sProp 𝕄) = BI.bigSep Finset.univ fun q : Fin 8 => Φ (pr c q) :=
  bigSep_univ_equiv (slots c) Φ

/-- A family over the eight slots is one over the transfer slots and the own slot. -/
theorem slots_own (Φ : Fin 8 → sProp 𝕄) :
    (BI.bigSep Finset.univ Φ : sProp 𝕄) = iprop((BI.bigSep Finset.univ fun p : Fin 7 => Φ (up p)) ∗ Φ 7) := by
  rw [eight, seven]
  show iprop(Φ 0 ∗ Φ 1 ∗ Φ 2 ∗ Φ 3 ∗ Φ 4 ∗ Φ 5 ∗ Φ 6 ∗ Φ 7) = (iprop((Φ 0 ∗ Φ 1 ∗ Φ 2 ∗ Φ 3 ∗ Φ 4 ∗ Φ 5 ∗ Φ 6) ∗ Φ 7) : sProp 𝕄)
  refine BI.equiv_iff.mp ⟨(?_ : (_ : sProp 𝕄) ⊢ _), (?_ : (_ : sProp 𝕄) ⊢ _)⟩
  · iintro ⟨H0, H1, H2, H3, H4, H5, H6, H7⟩
    isplitr [H7]
    · isplitl [H0]; · iexact H0
      isplitl [H1]; · iexact H1
      isplitl [H2]; · iexact H2
      isplitl [H3]; · iexact H3
      isplitl [H4]; · iexact H4
      isplitl [H5]; · iexact H5
      iexact H6
    iexact H7
  · iintro ⟨⟨H0, H1, H2, H3, H4, H5, H6⟩, H7⟩
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-! ## The kernel's buffers -/

/-- The weights buffer is its eight slots; -/
theorem wB_slots : (held (F := F) (c : Thread nD τ) wB : sProp 𝕄) ⊣⊢ BI.bigSep Finset.univ fun q : Fin 8 => held (F := F) (c : Thread nD τ) (wSq q) := by
  rw [bigSep_congr fun q _ => held_squeeze (F := F) (c : Thread nD τ) (wSlot q) S4096x256 squeezes_S1x4096x256_S4096x256]
  exact ⟨held_split (c : Thread nD τ) wB covers_w, held_join (c : Thread nD τ) wB covers_w⟩
/-- the send buffer its seven; -/
theorem sB_slots : (held (F := F) (c : Thread nD τ) sB : sProp 𝕄) ⊣⊢ BI.bigSep Finset.univ fun p : Fin 7 => held (F := F) (c : Thread nD τ) (sSlot p) :=
  ⟨held_split (c : Thread nD τ) sB covers_s, held_join (c : Thread nD τ) sB covers_s⟩
/-- the output buffer its eight; -/
theorem tB_slots : (held (F := F) (c : Thread nD τ) tB : sProp 𝕄) ⊣⊢ BI.bigSep Finset.univ fun q : Fin 8 => held (F := F) (c : Thread nD τ) (tSlot q) :=
  ⟨held_split (c : Thread nD τ) tB covers_t, held_join (c : Thread nD τ) tB covers_t⟩
/-- the receive buffer the rows of its seven partners and its own; -/
theorem gB_rows : (held (F := F) (c : Thread nD τ) gB : sProp 𝕄)
    ⊣⊢ iprop((BI.bigSep Finset.univ fun p : Fin 7 => held (F := F) (c : Thread nD τ) (gRow (pr c (up p)))) ∗ held (F := F) (c : Thread nD τ) (gRow c)) := by
  have e : iprop((BI.bigSep Finset.univ fun p : Fin 7 => held (F := F) (c : Thread nD τ) (gRow (pr c (up p)))) ∗ held (F := F) (c : Thread nD τ) (gRow c))
      = (BI.bigSep Finset.univ fun d : Dev nD => held (F := F) (c : Thread nD τ) (gRow d)) := by
    rw [by_slots c, slots_own, pr_own]
  rw [e]
  exact ⟨held_split (c : Thread nD τ) gB covers_r, held_join (c : Thread nD τ) gB covers_r⟩

/-- The weights are their columns, slot by slot. -/
theorem wA_cols : (((c : Thread nD τ).loc main_arg1) ↦{fullShare} m ((c : Thread nD τ).loc main_arg1) : sProp 𝕄)
    ⊣⊢ BI.bigSep Finset.univ fun q : Fin 8 => owns (c : Thread nD τ) (wCol (pr c q)) fullShare (wcol m c (pr c q)) := by
  rw [← by_slots c fun d => owns (c : Thread nD τ) (wCol d) fullShare (wcol m c d),
    ← owns_whole (c : Thread nD τ) main_arg1 fullShare (m ((c : Thread nD τ).loc main_arg1))]
  exact ⟨owns_rects (c : Thread nD τ) wA fullShare cRect covers_c.unit covers_c.disjoint covers_c.cover _,
    owns_of_rects (c : Thread nD τ) wA fullShare cRect covers_c.unit covers_c.disjoint covers_c.cover _⟩

/-- The result array before the run is rows to be written, slot by slot. -/
theorem oA_rows : (((c : Thread nD τ).loc main_v1) ↦{fullShare} m ((c : Thread nD τ).loc main_v1) : sProp 𝕄)
    ⊢ BI.bigSep Finset.univ fun q : Fin 8 => held (F := F) (c : Thread nD τ) (oRow (pr c q)) := by
  rw [← by_slots c fun d => held (F := F) (c : Thread nD τ) (oRow d),
    ← owns_whole (c : Thread nD τ) main_v1 fullShare (m ((c : Thread nD τ).loc main_v1))]
  exact (held_of_owns (c : Thread nD τ) oA _).trans (held_split (c : Thread nD τ) oA covers_r)

/-- Where a row of the result lies in its block. -/
def inRow (i : S4096x256.Idx) : S512x256.Idx := Shape.pair (d := ![512, 256]) ⟨(i 0).val % 512, Nat.mod_lt _ (by decide)⟩ (i 1)
/-- The device a row of the result comes from. -/
def rowDev (i : S4096x256.Idx) : Dev nD := ⟨(i 0).val / 512, Nat.div_lt_of_lt_mul (i 0).isLt⟩
/-- The result of a device: the rows that come from each device are the block its slot writes. -/
def result : S4096x256.Idx → Elt F .f32 := fun i => outv m c ((slots c).symm (rowDev i)) (inRow i)

/-- The rows of a device's result that come from a given device are the block of that device's slot. -/
theorem result_rows (d : Dev nD) : (fun j => result m c ((rRect d).emb j)) = outv m c ((slots c).symm d) := by
  funext j
  have h0 : ((rRect d).emb j 0).val = 512 * d.val + 1 * (j 0).val := (rRect d).emb_apply j 0
  have h1 : ((rRect d).emb j 1).val = 0 + 1 * (j 1).val := (rRect d).emb_apply j 1
  have hj : (j 0).val < 512 := (j 0).isLt
  have hd : rowDev ((rRect d).emb j) = d := by
    refine Fin.ext ?_
    show ((rRect d).emb j 0).val / 512 = d.val
    omega
  have hi : inRow ((rRect d).emb j) = j := by
    funext a
    refine Fin.ext ?_
    match a with
    | ⟨0, _⟩ => show ((rRect d).emb j 0).val % 512 = (j 0).val; omega
    | ⟨1, _⟩ => show ((rRect d).emb j 1).val = (j 1).val; omega
  unfold result
  rw [hd, hi]

/-- The rows written slot by slot are the result. -/
theorem oA_result : (BI.bigSep Finset.univ fun q : Fin 8 => owns (c : Thread nD τ) (oRow (pr c q)) fullShare (outv m c q) : sProp 𝕄)
    ⊢ (((c : Thread nD τ).loc main_v1) ↦{fullShare} result m c) := by
  have e : (BI.bigSep Finset.univ fun q : Fin 8 => owns (c : Thread nD τ) (oRow (pr c q)) fullShare (outv m c q) : sProp 𝕄)
      = BI.bigSep Finset.univ fun d : Dev nD => owns (c : Thread nD τ) (oA.slice (rRect d) (covers_r.unit d)) fullShare (fun j => result m c ((rRect d).emb j)) := by
    rw [by_slots c fun d => owns (c : Thread nD τ) (oA.slice (rRect d) (covers_r.unit d)) fullShare (fun j => result m c ((rRect d).emb j))]
    refine bigSep_congr fun q _ => ?_
    rw [result_rows, show pr c q = slots c q from rfl, Equiv.symm_apply_apply]
  rw [e, ← owns_whole (c : Thread nD τ) main_v1 fullShare (result m c)]
  exact owns_of_rects (c : Thread nD τ) oA fullShare rRect covers_r.unit covers_r.disjoint covers_r.cover _

end Cert.Scatter

end
-- ==== Proof.Ghost.lean ====
/-
# What the devices hold at launch

The cells, their tokens and their positions, dealt to the devices: every device learns that every cell follows the
schedule, keeps the positions of its own cells, and gets the tokens of the duties it pays.
-/
module

public import proofs.«01_k».proof.Proof.Views

@[expose] public section

set_option maxRecDepth 65536

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Cells and tokens -/

/-- The kernel's counters: the barrier and the transfers' counters. -/
abbrev csem : Unit ⊕ Fin 31 → SemLoc sig
  | .inl _ => .reg barS
  | .inr s => .dma (usem s)
abbrev kcell (ck : Dev nD × (Unit ⊕ Fin 31)) : GSem nD τ sig := ((ck.1 : Thread nD τ), csem ck.2)
/-- The kernel's own counters, as the launch numbers them. -/
abbrev osem : Fin 31 → SemLoc sig := fun s => .dma (usem s)

/-- The numbering of the kernel's own transfer counters gives different counters to different numbers. -/
theorem usem_injective : Function.Injective usem := fun s s' h => Fin.ext (by
  have := congrArg Fin.val h
  change 2 + s.val = 2 + s'.val at this
  omega)
/-- The numbering of the barrier and the transfer counters gives different counters to different numbers. -/
theorem csem_injective : Function.Injective csem := by
  rintro (u | s) (u' | s') h
  · rfl
  · cases h
  · cases h
  · exact congrArg Sum.inr (usem_injective (SemLoc.dma.inj h))
/-- Different pairs of a device and a counter are different cells. -/
theorem kcell_injective : Function.Injective kcell := by
  rintro ⟨c, k⟩ ⟨c', k'⟩ h
  have h1 : c = c' := congrArg (fun g : GSem nD τ sig => g.1.1) h
  have h2 : k = k' := csem_injective (congrArg (fun g : GSem nD τ sig => g.2) h)
  rw [h1, h2]
def ownCells : Finset (GSem nD τ sig) := Finset.univ.map ⟨kcell, kcell_injective⟩

/-- The tokens of a device's own cells: seven of its barrier, one of each transfer's counter. -/
abbrev tokOf (cj : Dev nD × (Fin 7 ⊕ Fin 31)) : GSem nD τ sig × ℕ × Fin 7 := match cj.2 with
  | .inl p => (barCell cj.1, 0, p)
  | .inr s => (dCell cj.1 (usem s), 0, 0)
/-- Different duties have different tokens. -/
theorem tokOf_injective : Function.Injective tokOf := by
  rintro ⟨c, j⟩ ⟨c', j'⟩ h
  have h1 : c = c' := by
    have := congrArg (fun x : GSem nD τ sig × ℕ × Fin 7 => x.1.1.1) h
    rcases j with p | s <;> rcases j' with p' | s' <;> exact this
  subst h1
  have h2 := congrArg (fun x : GSem nD τ sig × ℕ × Fin 7 => x.1.2) h
  have h3 := congrArg (fun x : GSem nD τ sig × ℕ × Fin 7 => x.2.2) h
  rcases j with p | s <;> rcases j' with p' | s'
  · have : p = p' := h3
    rw [this]
  · exact absurd h2 (fun h => by cases h)
  · exact absurd h2 (fun h => by cases h)
  · have : s = s' := usem_injective (SemLoc.dma.inj h2)
    rw [this]
def ownToks : Finset (GSem nD τ sig × ℕ × Fin 7) := Finset.univ.map ⟨tokOf, tokOf_injective⟩

/-- The kernel's own counters by kind. -/
def numberOf : Unit ⊕ Fin 8 ⊕ Fin 8 ⊕ Fin 7 ⊕ Fin 7 → Fin 31
  | .inl _ => ⟨0, by decide⟩
  | .inr (.inl q) => ⟨1 + q.val, by omega⟩
  | .inr (.inr (.inl q)) => ⟨9 + q.val, by omega⟩
  | .inr (.inr (.inr (.inl p))) => ⟨17 + p.val, by omega⟩
  | .inr (.inr (.inr (.inr p))) => ⟨24 + p.val, by omega⟩
/-- Every one of the kernel's own transfer counters is of exactly one kind and slot. -/
theorem numberOf_bijective : Function.Bijective numberOf :=
  (Fintype.bijective_iff_surjective_and_card numberOf).mpr ⟨by unfold Function.Surjective; decide, by decide⟩

/-- A family over the kernel's own counters, kind by kind. -/
theorem by_kind (Φ : DmaSem sig → sProp 𝕄) :
    (BI.bigSep Finset.univ fun s : Fin 31 => Φ (usem s))
      = iprop(Φ xS ∗ (BI.bigSep Finset.univ fun q : Fin 8 => Φ (wS q)) ∗ (BI.bigSep Finset.univ fun q : Fin 8 => Φ (oS q))
          ∗ (BI.bigSep Finset.univ fun p : Fin 7 => Φ (sS p)) ∗ BI.bigSep Finset.univ fun p : Fin 7 => Φ (rS p)) := by
  have hw : ∀ q, usem (numberOf (.inr (.inl q))) = wS q := by decide
  have ho : ∀ q, usem (numberOf (.inr (.inr (.inl q)))) = oS q := by decide
  have hs : ∀ p, usem (numberOf (.inr (.inr (.inr (.inl p))))) = sS p := by decide
  have hr : ∀ p, usem (numberOf (.inr (.inr (.inr (.inr p))))) = rS p := by decide
  have hx : ∀ u, usem (numberOf (.inl u)) = xS := by decide
  rw [bigSep_univ_equiv (Equiv.ofBijective numberOf numberOf_bijective) fun s : Fin 31 => Φ (usem s),
    BI.bigSep_univ_sum, BI.bigSep_univ_sum, BI.bigSep_univ_sum, BI.bigSep_univ_sum]
  simp only [Equiv.ofBijective_apply, hx, hw, ho, hs, hr]
  rw [show (Finset.univ : Finset Unit) = {()} from rfl, bigSep_singleton]
  rfl

/-- A family over the barrier and the own counters. -/
theorem by_cell (Φ : GSem nD τ sig → sProp 𝕄) :
    (BI.bigSep Finset.univ fun k : Unit ⊕ Fin 31 => Φ (kcell (c, k)))
      = iprop(Φ (barCell c) ∗ BI.bigSep Finset.univ fun s : Fin 31 => Φ (dCell c (usem s))) := by
  rw [BI.bigSep_univ_sum, show (Finset.univ : Finset Unit) = {()} from rfl, bigSep_singleton]
  rfl

/-- Handing a family around: what each device holds for its partner at a slot, it gets from that partner. -/
theorem around (Φ : Fin 7 → Dev nD → sProp 𝕄) :
    (BI.bigSep Finset.univ fun c : Dev nD => BI.bigSep Finset.univ fun p : Fin 7 => Φ p c)
      = BI.bigSep Finset.univ fun c : Dev nD => BI.bigSep Finset.univ fun p : Fin 7 => Φ p (pr c (up p)) := by
  rw [bigSep_univ_comm fun (c : Dev nD) (p : Fin 7) => Φ p c,
    bigSep_univ_comm fun (c : Dev nD) (p : Fin 7) => Φ p (pr c (up p))]
  exact bigSep_congr fun p _ => bigSep_univ_equiv (prPerm (up p)) (Φ p)

/-! ## Dealing them -/

/-- The tokens of device `c`'s own cells. -/
def toks : sProp 𝕄 :=
  iprop((BI.bigSep Finset.univ fun p : Fin 7 => dutyTok ER (barCell c) 0 p)
    ∗ BI.bigSep Finset.univ fun s : Fin 31 => dutyTok ER (dCell c (usem s)) 0 0)

/-- What a device gets at launch: the cells' states, their positions and rounds, and their tokens. -/
def G : sProp 𝕄 :=
  iprop((BI.bigSep Finset.univ fun k => roundState ER (sched (F := F) m) (kcell (c, k)) 0)
    ∗ (BI.bigSep Finset.univ fun k => atPos ER (kcell (c, k)) 0 ∅ 0)
    ∗ (BI.bigSep Finset.univ fun k => reached ER (kcell (c, k)) 0) ∗ toks (F := F) c)

/-- Every cell follows the schedule. -/
def book : sProp 𝕄 :=
  BI.bigSep Finset.univ fun d : Dev nD => iprop(kn (F := F) m (barCell d) ∗ BI.bigSep Finset.univ fun s : Fin 31 => kn m (dCell d (usem s)))
instance book_persistent : BI.Persistent (book (F := F) m) := by unfold book; infer_instance

/-- The tokens of the duties device `c` pays. -/
def payToks : sProp 𝕄 :=
  iprop((BI.bigSep Finset.univ fun p : Fin 7 => dutyTok ER (barCell (pr c (up p))) 0 p)
    ∗ dutyTok ER (dCell c xS) 0 0 ∗ (BI.bigSep Finset.univ fun q : Fin 8 => dutyTok ER (dCell c (wS q)) 0 0)
    ∗ (BI.bigSep Finset.univ fun q : Fin 8 => dutyTok ER (dCell c (oS q)) 0 0)
    ∗ (BI.bigSep Finset.univ fun p : Fin 7 => dutyTok ER (dCell c (sS p)) 0 0)
    ∗ BI.bigSep Finset.univ fun p : Fin 7 => dutyTok ER (dCell (pr c (up p)) (rS p)) 0 0)

/-- The positions of device `c`'s cells. -/
def places : sProp 𝕄 :=
  iprop(atPos ER (barCell c) 0 ∅ 0 ∗ BI.bigSep Finset.univ fun s : Fin 31 => atPos ER (dCell c (usem s)) 0 ∅ 0)

/-- What a device has once the cells are set up. -/
def G' : sProp 𝕄 := iprop(book (F := F) m ∗ places (F := F) c ∗ payToks (F := F) c)

/-- The initial ghost state gives every device its cells' states, positions, rounds and tokens. -/
theorem fund_own : BI.own (ER (initOf ownCells ownToks)) ⊢ (|==> BI.bigSep Finset.univ fun c : Dev nD => G (F := F) m c : sProp 𝕄) := by
  have hX (Φ : GSem nD τ sig → sProp 𝕄) : BI.bigSep ownCells Φ
      = BI.bigSep Finset.univ fun c : Dev nD => BI.bigSep Finset.univ fun k : Unit ⊕ Fin 31 => Φ (kcell (c, k)) := by
    unfold ownCells; rw [bigSep_map, bigSep_univ_prod]; rfl
  have hT : BI.bigSep ownToks (fun x => (dutyTok ER x.1 x.2.1 x.2.2 : sProp 𝕄)) = BI.bigSep Finset.univ fun c : Dev nD => toks (F := F) c := by
    unfold ownToks; rw [bigSep_map, bigSep_univ_prod]
    exact bigSep_congr fun c _ => by unfold toks; rw [BI.bigSep_univ_sum]; rfl
  iintro HX
  imod (Rounds.fund ER (sched (F := F) m) ownCells ownToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

/-- The one counter that outlives the call is the barrier's. -/
theorem unscopedSems0_eq : (unscopedSems0 c : sProp 𝕄) = semVal (barCell c) 0 := by
  unfold unscopedSems0; rw [bigSep_eq_bigSepL_of_eq [SemLoc.reg barS] (by decide) (by decide)]; rfl

/-- A device's own counters and its barrier at zero are all its cells at zero. -/
theorem sems0_eq :
    iprop(Pipeline.ownSems0 (Ix := Unit) (Name := ℕ) (U := UU) (Lvl := ℕ) (Val := Elt F) (τ := τ) osem c ∗ unscopedSems0 c)
      ⊢ (BI.bigSep Finset.univ fun k => semVal (kcell (c, k)) 0 : sProp 𝕄) := by
  rw [by_cell c fun g => (semVal g 0 : sProp 𝕄), unscopedSems0_eq]
  unfold Pipeline.ownSems0
  iintro ⟨HS, HB⟩
  isplitl [HB] <;> iassumption

/-- From its counters at zero and its ghost state a device sets up its cells, and keeps its positions and tokens. -/
theorem core_alloc :
    iprop(Pipeline.ownSems0 (Ix := Unit) (Name := ℕ) (U := UU) (Lvl := ℕ) (Val := Elt F) (τ := τ) osem c ∗ unscopedSems0 c ∗ G (F := F) m c)
      ⊢ |={Set.univ}=> iprop((BI.bigSep Finset.univ fun k => kn (F := F) m (kcell (c, k))) ∗ places (F := F) c ∗ toks (F := F) c) := by
  unfold G
  iintro ⟨Hos, Hus, Hst, Hat, Hr, Htok⟩
  ihave Hv := (sems0_eq (F := F) c) $$ [Hos Hus]
  · isplitl [Hos] <;> iassumption
  imod (show iprop((BI.bigSep Finset.univ fun k => semVal (kcell (c, k)) 0) ∗ BI.bigSep Finset.univ fun k => roundState ER (sched (F := F) m) (kcell (c, k)) 0)
      ⊢ (|={Set.univ}=> BI.bigSep Finset.univ fun k => iprop(∃ κ : ℕ, cellInv ER (sched (F := F) m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv Hr]
  · iapply (show iprop((BI.bigSep Finset.univ fun k => iprop(∃ κ : ℕ, cellInv ER (sched (F := F) m) κ (kcell (c, k)))) ∗ BI.bigSep Finset.univ fun k => reached ER (kcell (c, k)) 0)
        ⊢ (BI.bigSep Finset.univ fun k => kn (F := F) m (kcell (c, k)) : sProp 𝕄) from by
          unfold kn; rw [← bigSep_sep'])
    isplitl [Hinv] <;> iassumption
  isplitl [Hat]
  · unfold places
    rw [← by_cell c fun g => (atPos ER g 0 ∅ 0 : sProp 𝕄)]
    iexact Hat
  iexact Htok

/-- The tokens of all the cells, listed by the device that owns the cell, are the same tokens listed by the device
    that pays. -/
theorem toks_around : (BI.bigSep Finset.univ fun c : Dev nD => (toks c : sProp 𝕄)) = BI.bigSep Finset.univ fun c : Dev nD => payToks (F := F) c := by
  unfold toks payToks
  have hk : ∀ c : Dev nD, _ := fun c => by_kind (F := F) fun s => (dutyTok ER (dCell c s) 0 0 : sProp 𝕄)
  simp only [hk, bigSep_sep']
  rw [around fun p d => (dutyTok ER (barCell d) 0 p : sProp 𝕄), around fun p d => (dutyTok ER (dCell d (rS p)) 0 0 : sProp 𝕄)]

/-- A persistent fact can be handed to every member of a family. -/
theorem with_persistent {I : Type} [DecidableEq I] {S : Finset I} {R : sProp 𝕄} [BI.Persistent R] {Φ : I → sProp 𝕄} :
    iprop(R ∗ BI.bigSep S Φ) ⊢ BI.bigSep S fun i => iprop(R ∗ Φ i) :=
  (sep_mono_left (BI.bigSep_of_persistent S R)).trans (by rw [← bigSep_sep'])

/-- The global step: the counters of every device set up, and the tokens handed around. -/
theorem glob : (BI.bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> BI.bigSep Finset.univ fun c : Dev nD => G' (F := F) m c := by
  have h : (BI.bigSep Finset.univ fun c : Dev nD => iprop((BI.bigSep Finset.univ fun k => kn (F := F) m (kcell (c, k))) ∗ places (F := F) c ∗ toks (F := F) c) : sProp 𝕄)
      ⊢ BI.bigSep Finset.univ fun c : Dev nD => G' (F := F) m c := by
    have hb : (BI.bigSep Finset.univ fun c : Dev nD => BI.bigSep Finset.univ fun k => kn (F := F) m (kcell (c, k))) = book m := by
      unfold book; exact bigSep_congr fun d _ => by_cell d fun g => kn (F := F) m g
    rw [bigSep_sep', bigSep_sep', toks_around, hb, ← bigSep_sep']
    exact with_persistent
  exact ((bigSep_mono fun c _ => core_alloc m c).trans (bigSep_fupd _ _)).trans (BI.fupd_mono h)

/-! ## Credits -/

/-- Being partners at a slot is symmetric. -/
theorem pr_swap {c d : Dev nD} {q : Fin 8} : c = pr d q ↔ d = pr c q :=
  ⟨fun h => by rw [h, pr_pr], fun h => by rw [h, pr_pr]⟩
/-- Two barrier cells are the same exactly when their devices are. -/
theorem bar_iff {a b : Dev nD} : barCell a = barCell b ↔ a = b :=
  ⟨fun h => congrArg (fun g : GSem nD τ sig => g.1.1) h, fun h => h ▸ rfl⟩
/-- Two receive cells are the same exactly when their devices and slots are. -/
theorem recv_iff {a b : Dev nD} {p p' : Fin 7} : dCell a (rS p) = dCell b (rS p') ↔ a = b ∧ p = p' := by
  constructor
  · intro h
    have h2 : kindOf (rS p) = kindOf (rS p') := congrArg kindOf (SemLoc.dma.inj (congrArg (fun g : GSem nD τ sig => g.2) h))
    rw [kind_r, kind_r] at h2
    exact ⟨congrArg (fun g : GSem nD τ sig => g.1.1) h, Kind.r.inj h2⟩
  · rintro ⟨rfl, rfl⟩; rfl

/-- What the devices owe a barrier: one signal each from the seven partners; -/
theorem owed_bar (d : Dev nD) : owed d Finset.univ Finset.univ (barCell c) () = ∑ p : Fin 7, if d = pr c (up p) then 1 else 0 := by
  unfold owed owedBar owedRecv
  rw [Pi.add_apply, Finsupp.add_apply, Finset.sum_apply, Finset.sum_apply, Finsupp.finsetSum_apply, Finsupp.finsetSum_apply,
    Finset.sum_eq_zero (s := Finset.univ) (f := fun p => tallyAt (dCell (pr d (up p)) (rS p)) () Ng (barCell c) ()), Nat.add_zero]
  · refine Finset.sum_congr rfl fun p _ => ?_
    rw [tallyAt_apply]
    exact if_congr ((and_iff_left rfl).trans (bar_iff.trans pr_swap)) rfl rfl
  · intro p _
    rw [tallyAt_apply, if_neg]
    rintro ⟨h, -⟩
    exact absurd (congrArg (fun g : GSem nD τ sig => g.2) h) (fun h => by cases h)
/-- and the counter of a receive: one block, from the partner at the slot. -/
theorem owed_recv (d : Dev nD) (p : Fin 7) : owed d Finset.univ Finset.univ (dCell c (rS p)) () = if d = pr c (up p) then Ng else 0 := by
  unfold owed owedBar owedRecv
  rw [Pi.add_apply, Finsupp.add_apply, Finset.sum_apply, Finset.sum_apply, Finsupp.finsetSum_apply, Finsupp.finsetSum_apply,
    Finset.sum_eq_zero (s := Finset.univ) (f := fun p' => tallyAt (barCell (pr d (up p'))) () 1 (dCell c (rS p)) ()), Nat.zero_add,
    Finset.sum_eq_single p]
  · rw [tallyAt_apply]
    exact if_congr ((and_iff_left rfl).trans (recv_iff.trans ((and_iff_left rfl).trans pr_swap))) rfl rfl
  · intro p' _ hp
    rw [tallyAt_apply, if_neg]
    rintro ⟨h, -⟩
    exact hp (recv_iff.mp h).2.symm
  · exact fun h => absurd (Finset.mem_univ p) h
  · intro p' _
    rw [tallyAt_apply, if_neg]
    rintro ⟨h, -⟩
    exact absurd (congrArg (fun g : GSem nD τ sig => g.2) h) (fun h => by cases h)

/-- The credit the launch puts on a barrier is seven. -/
theorem launch_bar :
    tallyOn (barCell c) (launchCredit (Pipeline.owing fun d => owed d Finset.univ Finset.univ) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar c d, Finset.sum_comm,
    Finset.sum_congr rfl fun p _ => (Finset.sum_ite_eq' Finset.univ (pr c (up p)) fun _ => 1).trans (if_pos (Finset.mem_univ _))]
  rfl
/-- The credit the launch puts on a receive counter is that of one block. -/
theorem launch_recv (p : Fin 7) :
    tallyOn (dCell c (rS p)) (launchCredit (Pipeline.owing fun d => owed d Finset.univ Finset.univ) 0 (dCell c (rS p))) = (tallyAt (dCell c (rS p)) () Ng : CellTallies nD τ sig Unit) := by
  unfold tallyAt; refine congrArg _ (Finsupp.ext fun u => ?_); cases u
  rw [Pipeline.launchCredit_owing, Finsupp.single_eq_same, Finset.sum_congr rfl fun d _ => owed_recv c d p,
    Finset.sum_ite_eq' Finset.univ (pr c (up p)) fun _ => Ng, if_pos (Finset.mem_univ _)]

/-- Different slots have different receive counters. -/
theorem rS_injective : Function.Injective fun p : Fin 7 => (SemLoc.dma (rS p) : SemLoc sig) := fun p p' h => by
  have h2 := congrArg kindOf (SemLoc.dma.inj h)
  rw [kind_r, kind_r] at h2
  exact Kind.r.inj h2

/-- At launch a device holds the credit of its barrier and of its seven receives. -/
theorem creds : (Pipeline.launchCred (fun d => owed d Finset.univ Finset.univ) c : sProp 𝕄)
    ⊢ iprop(cred (tallyAt (barCell c) () 7) ∗ BI.bigSep Finset.univ fun p : Fin 7 => cred (tallyAt (dCell c (rS p)) () Ng)) := by
  unfold Pipeline.launchCred
  rw [bigSep_univ_at _ (SemLoc.reg barS), launch_bar]
  refine sep_mono_right ?_
  have hs : Finset.univ.map ⟨fun p : Fin 7 => (SemLoc.dma (rS p) : SemLoc sig), rS_injective⟩ ⊆ Finset.univ.erase (SemLoc.reg barS) := by
    intro x hx
    obtain ⟨p, -, rfl⟩ := Finset.mem_map.mp hx
    exact Finset.mem_erase.mpr ⟨fun h => (by cases h), Finset.mem_univ _⟩
  refine (BI.bigSep_subset hs).trans ?_
  rw [bigSep_map]
  exact bigSep_mono fun p _ => Entails.of_eq (congrArg cred (launch_recv c p))

end Cert.Scatter

end
-- ==== Proof.Launch.lean ====
/-
# The launch

The eight bodies run together: what each device holds when its body starts, what it leaves, and the run of the program.
-/
module

public import proofs.«01_k».proof.Proof.Ghost
public import Idealize.ShloMosaic.Lib.Pipeline.CollectiveSegs

@[expose] public section

set_option maxRecDepth 65536

noncomputable section

namespace Cert.Scatter

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (c : Dev nD)

/-! ## Before and after the body -/

/-- A completed send hands back the send buffer's slot with the block in it. -/
theorem pay_s (p : Fin 7) : pay m c (.s p) = owns (c : Thread nD τ) (sSq p) fullShare (chunk m c (pr c (up p))) := rfl
/-- A completed copy out hands back the result's rows, written, and the output buffer's slot. -/
theorem pay_o (q : Fin 8) : pay m c (.o q) = iprop(owns (c : Thread nD τ) (oRow (pr c q)) fullShare (outv m c q)
    ∗ owns (c : Thread nD τ) (tSq q) fullShare (outv m c q)) := rfl
/-- A receive is credited with one block. -/
theorem amt_r (p : Fin 7) : amt (kindOf (rS p)) = Ng := by rw [kind_r]; rfl

/-- The five scratch buffers, held. -/
def scratch : sProp 𝕄 :=
  iprop(held (F := F) (c : Thread nD τ) xB ∗ held (F := F) (c : Thread nD τ) wB ∗ held (F := F) (c : Thread nD τ) sB
    ∗ held (F := F) (c : Thread nD τ) gB ∗ held (F := F) (c : Thread nD τ) tB)
/-- The memory the call allocates for the body is the five scratch buffers. -/
theorem scratch_eq : (Pipeline.scopedRest (Ix := Unit) (Name := ℕ) (U := UU) (Lvl := ℕ) (Val := Elt F) spec0 c : sProp 𝕄) = scratch c := by
  rw [scopedRest0_eq]
  unfold scratch
  rw [held_whole, held_whole, held_whole, held_whole, held_whole]

/-- What the launch hands the body of device `c`, besides the scratch buffers, -/
def start : sProp 𝕄 :=
  iprop(G' m c ∗ levAts L lv
    ∗ (cred (tallyAt (barCell c) () 7) ∗ BI.bigSep Finset.univ fun p : Fin 7 => cred (tallyAt (dCell c (rS p)) () Ng))
    ∗ (((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_v1) ↦{fullShare} m ((c : Thread nD τ).loc main_v1)))

/-- and what the body leaves: its counters at zero and its arrays, the result written. -/
def leave : sProp 𝕄 :=
  iprop(semVal (barCell c) 0
    ∗ (((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_v1) ↦{fullShare} result m c))

/-- What the launch hands a device, cut into slots, is what the body starts from, with the device's own rows of
    the receive buffer over. -/
theorem prepare : iprop(start m c ∗ scratch (F := F) c)
    ⊢ iprop(known m ∗ (BI.bigSep (after 0) fun p => offer (F := F) c p) ∗ ready m c ∗ held (F := F) (c : Thread nD τ) (gRow c)) := by
  unfold start scratch G' places payToks
  rw [by_kind (F := F) fun s => (atPos ER (dCell c s) 0 ∅ 0 : sProp 𝕄), after_zero]
  unfold ready offer wReady sReady oReady fresh fly
  simp only [bigSep_sep', amt_r]
  iintro ⟨⟨⟨Hbook, ⟨HaB, Hax, Haw, Hao, Has, Har⟩, HtB, Htx, Htw, Hto, Hts, Htr⟩, Hlev, ⟨HcB, HcR⟩, Hx, Hw, Ho⟩, HxB, HwB, HsB, HgB, HtBuf⟩
  ihave Hw := (wA_cols m c).1 $$ Hw
  ihave Ho := (oA_rows m c) $$ Ho
  ihave HwB := (wB_slots c).1 $$ HwB
  ihave HsB := (sB_slots c).1 $$ HsB
  ihave HtBuf := (tB_slots c).1 $$ HtBuf
  ihave HgB := (gB_rows c).1 $$ HgB
  icases HgB with ⟨HgP, HgO⟩
  isplitl [Hbook Hlev]
  · unfold known book; isplitl [Hlev] <;> iassumption
  isplitl [HtB HgP]
  · isplitl [HtB] <;> iassumption
  isplitr [HgO]
  · isplitl [Hx HxB Hax Htx]
    · isplitl [Hx]
      · iapply (Entails.of_eq (owns_whole (c : Thread nD τ) main_arg0 fullShare (m ((c : Thread nD τ).loc main_arg0))).symm); iexact Hx
      isplitl [HxB]; · iexact HxB
      isplitl [Hax] <;> iassumption
    isplitl [Hw HwB Haw Htw]
    · isplitl [Hw]; · iexact Hw
      isplitl [HwB]; · iexact HwB
      isplitl [Haw] <;> iassumption
    isplitl [HsB Has Hts Htr]
    · isplitl [HsB]; · iexact HsB
      isplitl [Has Hts]; · isplitl [Has] <;> iassumption
      iexact Htr
    isplitl [Har HcR]
    · isplitl [Har] <;> iassumption
    isplitl [HtBuf Ho Hao Hto]
    · isplitl [HtBuf]; · iexact HtBuf
      isplitl [Ho]; · iexact Ho
      isplitl [Hao] <;> iassumption
    isplitl [HaB] <;> iassumption
  iexact HgO

/-- A family of implications gives one between the separating products. -/
theorem each {I : Type} [Fintype I] {Φ Ψ : I → sProp 𝕄} (h : ∀ i, Φ i ⊢ Ψ i) :
    (BI.bigSep Finset.univ Φ : sProp 𝕄) ⊢ BI.bigSep Finset.univ Ψ := bigSep_mono fun i _ => h i

/-- What the body leaves, put together again, is what a device ends with: its counters at zero, its arrays and its
    scratch buffers. -/
theorem finish : iprop(done m c ∗ held (F := F) (c : Thread nD τ) (gRow c))
    ⊢ iprop(leave m c ∗ Pipeline.ownSems0 (Ix := Unit) (Name := ℕ) (U := UU) (Lvl := ℕ) (Val := Elt F) (τ := τ) osem c ∗ scratch (F := F) c) := by
  unfold done wDone sDone rDone oDone
  simp only [pay_x, pay_w, pay_s, pay_r, pay_o, bigSep_sep']
  iintro ⟨⟨⟨Hzx, HxB, Hx⟩, ⟨Hzw, HwB, Hw⟩, ⟨Hzs, HsB⟩, ⟨Hzr, HgP⟩, ⟨Hzo, Ho, HtBuf⟩, HzB⟩, HgO⟩
  unfold leave
  isplitl [HzB Hx Hw Ho]
  · isplitl [HzB]; · iexact HzB
    isplitl [Hx]
    · iapply (Entails.of_eq (owns_whole (c : Thread nD τ) main_arg0 fullShare (m ((c : Thread nD τ).loc main_arg0)))); iexact Hx
    isplitl [Hw]
    · iapply (wA_cols m c).2; iexact Hw
    iapply (oA_result m c); iexact Ho
  isplitl [Hzx Hzw Hzs Hzr Hzo]
  · unfold Pipeline.ownSems0
    rw [by_kind (F := F) fun s => (semVal (dCell c s) 0 : sProp 𝕄)]
    isplitl [Hzx]; · iexact Hzx
    isplitl [Hzw]; · iexact Hzw
    isplitl [Hzo]; · iexact Hzo
    isplitl [Hzs] <;> iassumption
  unfold scratch
  isplitl [HxB]; · iapply (held_of_owns (c : Thread nD τ) xB _); iexact HxB
  isplitl [HwB]
  · iapply (wB_slots c).2
    iapply (each fun q => held_of_owns (c : Thread nD τ) (wSq q) (wcol m c (pr c q))); iexact HwB
  isplitl [HsB]
  · iapply (sB_slots c).2
    iapply (each fun p => (held_of_owns (c : Thread nD τ) (sSq p) (chunk m c (pr c (up p)))).trans
      (Entails.of_eq (held_squeeze (F := F) (c : Thread nD τ) (sSlot p) S512x256 squeezes_S1x512x256_S512x256))); iexact HsB
  isplitl [HgP HgO]
  · iapply (gB_rows c).2
    isplitl [HgP]
    · iapply (each fun p => held_of_owns (c : Thread nD τ) (gRow (pr c (up p))) (chunk m (pr c (up p)) c)); iexact HgP
    iexact HgO
  iapply (tB_slots c).2
  iapply (each fun q => (held_of_owns (c : Thread nD τ) (tSq q) (outv m c q)).trans
    (Entails.of_eq (held_squeeze (F := F) (c : Thread nD τ) (tSlot q) S512x256 squeezes_S1x512x256_S512x256))); iexact HtBuf

/-! ## The pipeline's data -/

/-- What every device owes at launch: a signal and a block to each partner. -/
abbrev O₀ (c : Dev nD) : CellTallies nD τ sig Unit := owed c Finset.univ Finset.univ

abbrev s₀ (ρ : Dev nD → PrngReg) : MemSt nD τ sig (Elt F) := ⟨m, fun _ => 0, ρ⟩

def Φ₀ : sProp 𝕄 := iprop(start m c ∗ scratch (F := F) c)
def Φ₁ : sProp 𝕄 :=
  iprop(leave m c ∗ Pipeline.ownSems0 (Ix := Unit) (Name := ℕ) (U := UU) (Lvl := ℕ) (Val := Elt F) (τ := τ) osem c ∗ scratch (F := F) c)

def dats (_ : Fin 1) (c : Dev nD) : Dat τ (Elt F) Unit ℕ UU ℕ cfg0 c where
  A w := m ((cfg0.win w).arr.view.loc (c : Thread nD τ))
  after w _ := match w with
    | ⟨0, _⟩ => m ((c : Thread nD τ).loc main_arg2)
    | ⟨1, _⟩ => m ((c : Thread nD τ).loc main_arg3)
  Φ t := match t with
    | ⟨0, _⟩ => Φ₀ m c
    | ⟨_ + 1, _⟩ => Φ₁ m c
  q _ := fullShare
  owed t := match t with
    | ⟨0, _⟩ => O₀ c
    | ⟨_ + 1, _⟩ => 0

/-- The first scale is fetched at the one grid step. -/
theorem fetch_0 (t : Fin cfg0.N) : (cfg0.win (0 : Fin 2)).fetch t = true := by rw [fin_N0 t]; rfl
/-- The second scale is fetched at the one grid step. -/
theorem fetch_1 (t : Fin cfg0.N) : (cfg0.win (1 : Fin 2)).fetch t = true := by rw [fin_N0 t]; rfl

/-- The one block of each scalar is the scalar. -/
theorem read_scale (f : Buf (Elt F) ((c : Thread nD τ).loc main_arg2)) : (win0_0.blk t0_0).view.read (Elt F) f = f :=
  Memref.read_access_unit_zero (Elt F) main_arg2
    (show (fun a => (win0_0.index t0_0) a * main_arg2.ty.shape.size a) = fun _ => 0 from funext fun a => by revert a; decide)
    (by decide) f
/-- The one block of the second scale is the second scale. -/
theorem read_second (f : Buf (Elt F) ((c : Thread nD τ).loc main_arg3)) : (win0_1.blk t0_0).view.read (Elt F) f = f :=
  Memref.read_access_unit_zero (Elt F) main_arg3
    (show (fun a => (win0_1.index t0_0) a * main_arg3.ty.shape.size a) = fun _ => 0 from funext fun a => by revert a; decide)
    (by decide) f

def bodyPre : sProp 𝕄 :=
  iprop(Φ₀ m c ∗ (dats m 0 c).owesAt () (t0_0 : Fin cfg0.N).castSucc
    ∗ (∃ d, owns (c : Thread nD τ) (Memref.whole cc0_stg0_0) fullShare ((dats m 0 c).before (0 : Fin 2) t0_0 d))
    ∗ (∃ d, owns (c : Thread nD τ) (Memref.whole cc0_stg1_0) fullShare ((dats m 0 c).before (1 : Fin 2) t0_0 d)))
def bodyPost : sProp 𝕄 :=
  iprop(Φ₁ m c ∗ (dats m 0 c).owesAt () (t0_0 : Fin cfg0.N).succ
    ∗ owns (c : Thread nD τ) (Memref.whole cc0_stg0_0) fullShare (m ((c : Thread nD τ).loc main_arg2))
    ∗ owns (c : Thread nD τ) (Memref.whole cc0_stg1_0) fullShare (m ((c : Thread nD τ).loc main_arg3)))

/-- The body of device `c` from what the launch hands it to what it leaves. -/
theorem body_sound : bodyPre m c ⊢ Runs c (app (cc0_body (F := F))) fun _ => bodyPost m c := by
  unfold bodyPre
  iintro ⟨HΦ, HO, ⟨%d0, Ha⟩, ⟨%d1, Hb⟩⟩
  have h0 : (dats m 0 c).before (0 : Fin 2) t0_0 d0 = m ((c : Thread nD τ).loc main_arg2) := by
    unfold Dat.before; rw [if_pos (fetch_0 t0_0)]; exact read_scale (F := F) c (m ((c : Thread nD τ).loc main_arg2))
  have h1 : (dats m 0 c).before (1 : Fin 2) t0_0 d1 = m ((c : Thread nD τ).loc main_arg3) := by
    unfold Dat.before; rw [if_pos (fetch_1 t0_0)]; exact read_second (F := F) c (m ((c : Thread nD τ).loc main_arg3))
  rw [h0, h1]
  unfold Φ₀
  ihave HΦ := (prepare m c) $$ HΦ
  icases HΦ with ⟨#Hkn, Hoff, Hready, Hrow⟩
  unfold Dat.owesAt Pipeline.owesWithin
  icases HO with ⟨%W, %hW, HO⟩
  rw [show (dats m 0 c).owed (t0_0 : Fin cfg0.N).castSucc = O₀ c from rfl]
  iapply (body_run m c) $$ [Ha Hb HO Hoff Hready]
  · isplitr; · iexact Hkn
    isplitl [Ha Hb]; · unfold scalars; isplitl [Ha] <;> iassumption
    isplitl [HO Hoff]
    · unfold signals owing
      rw [after_zero]
      isplitl [HO]; · iexists W; iexact HO
      iexact Hoff
    iexact Hready
  iintro ⟨Hsc, Hq, Hdone⟩
  unfold bodyPost Φ₁ Dat.owesAt Pipeline.owesWithin
  rw [show (dats m 0 c).owed (t0_0 : Fin cfg0.N).succ = 0 from rfl]
  unfold scalars quiet owing
  rw [owed_none]
  icases Hq with ⟨%W', HO⟩
  isplitl [Hdone Hrow]
  · iapply (finish m c); isplitl [Hdone] <;> iassumption
  isplitl [HO]
  · iexists W'
    isplitr; · ipureintro; exact fun _ _ => Or.inl trivial
    iexact HO
  iexact Hsc

/-- The body meets the obligation of the launch at its one grid step. -/
theorem body_obligation : BodyObligation (dats (F := F) m 0 c) (defs₀ (F := F)) 𝒱₀ () Set.univ := fun t => by
  rw [fin_N0 t]
  rw [bigSep_W0, bigSep_W0]
  exact body_sound m c

/-! ## The run -/

/-- The transfer counters named as the kernel's own have the properties the launch asks of them. -/
theorem ownSemFacts : Pipeline.OwnSemFacts cfg0.spec osem := by decide

/-- Both scales are held in full. -/
theorem share_eq (w : Fin cfg0.W) : (dats m 0 c).share w = fullShare := by unfold Dat.share; split <;> rfl

def u₀ : UU :=
  (initOf (Pipeline.cells cfgs cellOf_inj) (Pipeline.launchToks cfgs cellOf_inj), initOf ownCells ownToks)

/-- What a device has once the cells are set up is what its body is handed. -/
theorem start_intro (ρ : Dev nD → PrngReg) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none]
  iintro ⟨Hrest, Hlev, Hcr, -, HG⟩
  ihave Hc := (creds (F := F) c) $$ Hcr
  ihave Hr := (Entails.of_eq (unscopedRest0_eq c fun b => m ((c : Thread nD τ).loc b))) $$ Hrest
  imodintro
  unfold start
  isplitl
  · isplitl [HG]; · iexact HG
    isplitl [Hlev]; · iexact Hlev
    isplitl [Hc] <;> iassumption
  · iempintro

/-- Before the grid step the body has what it is handed and its scratch buffers. -/
theorem phi0_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  iintro ⟨Hs, -, Hr⟩
  isplitl [Hs]; · iexact Hs
  iapply (Entails.of_eq (scratch_eq c)); iexact Hr

/-- After the grid step the body leaves its arrays, its own counters at zero and its scratch buffers. -/
theorem phi1_exit :
    (dats m 0 c).Φ (Fin.last cfg0.N) ⊢ iprop(leave m c ∗ Pipeline.ownSems0 osem c ∗ Pipeline.scopedRest cfg0.spec c) := by
  rw [show (dats m 0 c).Φ (Fin.last cfg0.N) = Φ₁ m c from rfl]
  unfold Φ₁
  iintro ⟨Hl, Hz, Hr⟩
  isplitl [Hl]; · iexact Hl
  isplitl [Hz]; · iexact Hz
  iapply (Entails.of_eq (scratch_eq c).symm); iexact Hr

/-- A staging counter is waited for before anything else. -/
theorem stage_lv (w : Fin cfg0.W) (s : Fin (cfg0.win w).nbuf) : lv (dCell c ((cfg0.win w).sem s)) () = 0 := by
  have h : ∀ (w : Fin cfg0.W) (s : Fin (cfg0.win w).nbuf), kindOf ((cfg0.win w).sem s) = .stage := by decide
  show (match kindOf ((cfg0.win w).sem s) with | .r _ => 2 | _ => 0) = 0
  rw [h w s]

/-- The staging counters may be waited for before and after the body. -/
theorem waits : (levAts L lv : sProp 𝕄) ⊢ Pipeline.cellsWaits cfgs (dats m) () 0 c :=
  Pipeline.cellsWaits_intro cfgs (dats m) () 0 c fun w s t => by
    have h : lv (dCell c ((cfg0.win w).sem s)) () = 0 := stage_lv c w s
    rcases t with ⟨_ | _, ht⟩
    · exact mayWait_local c _ h Finset.univ Finset.univ
    · have h' := mayWait_none (F := F) c (.dma ((cfg0.win w).sem s))
      rw [owed_none] at h'
      exact h'

/-- What the final memory holds of device `c`: its arguments' first two as they were, the result, the barrier at zero. -/
def QY (s : MemSt nD τ sig (Elt F)) : Prop :=
  (s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = result m c)
  ∧ ∀ sm : SemLoc sig, sm.isScoped .tc = false → s.sem ((c : Thread nD τ), sm) = 0

/-- What a device leaves fixes its arrays and counters in the final memory. -/
theorem leave_read (s' : Phys nD τ sig (Elt F)) : iprop(leave m c ∗ emp ∗ SI s') ⊢ (|={Set.univ}=> iprop(⌜QY m c s'.mem⌝ ∗ SI s') : sProp 𝕄) := by
  unfold leave
  iintro ⟨⟨Hz, H0, H1, Hv⟩, -, HSI⟩
  icombine HSI H0 gives %h0
  icombine HSI H1 gives %h1
  icombine HSI Hv gives %hv
  imod (Pipeline.unscopedSems0_read (X := semVal (barCell c) 0) (c := c) (by rw [unscopedSems0_eq]; exact fupd_intro) s') $$ [Hz HSI] with ⟨%hs, HSI⟩
  · isplitl [Hz] <;> iassumption
  imodintro
  isplitr
  · ipureintro
    exact ⟨⟨funext fun i => h0 i (Finset.mem_univ i), funext fun i => h1 i (Finset.mem_univ i), funext fun i => hv i (Finset.mem_univ i)⟩, hs⟩
  iexact HSI

/-- What a run leaves: on every device the arguments as they were and the result, and every counter at zero. -/
def Final (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_v1) = result m c)
  ∧ r.2.sem = fun _ => 0

set_option maxRecDepth 8000 in
/-- The program on eight devices, over any float values and from any memory with every counter at zero: every weakly
    fair run ends, with the arguments unchanged, every device's result written and every counter at zero. -/
theorem run_main (ρ : Dev nD → PrngReg) : θ_run defs (onTc (τ := τ) (main (F := F))) (s₀ m ρ) (Final m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_own m) $$ HX with HG
      imodintro
      isplitl [HP] <;> iassumption)
    (hglob := glob m)
    (hA := fun _ _ => rfl) (hpf := fun _ k => k.elim0)
    (X := start m) (Y := leave m) (Z := fun _ => iprop(emp))
    (hX := fun c => start_intro m c ρ) (hin := phi0_intro m) (hout := phi1_exit m)
    (QY := QY m) (hY := leave_read m)
    (hQ := fun s h hs => ⟨fun c =>
      have ⟨h0, h1, hv⟩ := (h c).2.2.1
      ⟨h0, h1, ((h c).1 (0 : Fin 2)).trans ((dats (F := F) m 0 c).arrAt_in (0 : Fin 2) rfl _),
        ((h c).1 (1 : Fin 2)).trans ((dats (F := F) m 0 c).arrAt_in (1 : Fin 2) rfl _), hv⟩,
      sem_eq_zero hs fun c => (h c).2.2.2⟩)

end Cert.Scatter

end
-- ==== Proof.Value.lean ====
/-
# What the kernel's result is, over the extended reals

Every device's result is its block of columns of `silu ((x · w) · (a · b))`, where `x` is the array the devices hold
the row blocks of and `w`, `a`, `b` are the arrays they all hold. Both references compute that array: the one that
clips, where the clip changes nothing.
-/
module

public import proofs.«01_k».proof.Proof.Views
public import proofs.«01_k».proof.Proof.Gen.ReferenceIdeal
public import proofs.«01_k».proof.Proof.Gen.UnclippedIdeal
public import proofs.«01_k».proof.Proof.Gen.On_unclipped
public import Idealize.ShloMosaic.Lib.Layout
public import Idealize.ShloMosaic.Lib.ValueIdx
public import Idealize.ShloMosaic.PureOps.Ideal
public import Idealize.ShloMosaic.PureOps.Ideal.Laws
public import Idealize.ShloMosaic.Lib.IdealHost

@[expose] public section

noncomputable section

namespace Cert.Scatter

open Cert.KernelIdeal Cert.KernelIdeal.Gen
open Idealize.ShloMosaic
open Idealize.ShloMosaic.TcCoe
open Idealize.ShloMosaic.ValueIdx
open Idealize.SL.Sem

/-! ## The function -/

/-- `silu y = y / (1 + exp (-y))`. -/
def silu (y : EReal) : EReal := Ideal.div y (1 + Ideal.exp (-y))

/-- The product of a row of `x` and a column of `w`. -/
def dotRC {M N : Nat} (x : (⟨2, ![M, 4096]⟩ : Shape).Idx → EReal) (w : (⟨2, ![4096, N]⟩ : Shape).Idx → EReal)
    (r : Fin M) (l : Fin N) : EReal := ∑ k : Fin 4096, x (ix2 r k) * w (ix2 k l)

/-- The scaled product at an index, -/
def scaled (x : (⟨2, ![4096, 4096]⟩ : Shape).Idx → EReal) (w : (⟨2, ![4096, 2048]⟩ : Shape).Idx → EReal)
    (a b : (⟨1, ![1]⟩ : Shape).Idx → EReal) (i : (⟨2, ![4096, 2048]⟩ : Shape).Idx) : EReal :=
  dotRC x w (i 0) (i 1) * (a (ix1 0) * b (ix1 0))

/-- and its silu. -/
def whole (x : (⟨2, ![4096, 4096]⟩ : Shape).Idx → EReal) (w : (⟨2, ![4096, 2048]⟩ : Shape).Idx → EReal)
    (a b : (⟨1, ![1]⟩ : Shape).Idx → EReal) (i : (⟨2, ![4096, 2048]⟩ : Shape).Idx) : EReal := silu (scaled x w a b i)

/-- An exponential is at least zero, so one more than it is not zero. -/
theorem one_add_exp_ne_zero (y : EReal) : 1 + Ideal.exp y ≠ 0 := by
  have h : 0 ≤ Ideal.exp y := by
    induction y with
    | bot => exact le_rfl
    | top => exact le_top
    | coe r => rw [Ideal.exp_coe]; exact_mod_cast (Real.exp_pos r).le
  have h1 : (0 : EReal) < 1 + Ideal.exp y := lt_of_lt_of_le zero_lt_one (le_add_of_nonneg_right h)
  exact h1.ne'

/-- A value times its logistic is its silu. -/
theorem mul_logistic (y : EReal) : y * Ideal.logistic y = silu y := by
  unfold Ideal.logistic silu Ideal.div
  rw [if_neg (one_add_exp_ne_zero (-y)), if_neg (one_add_exp_ne_zero (-y)), one_mul]

/-! ## The contractions -/

section Contraction
variable {M K N : Nat}

/-- The sum over the index contracted by a product of an `M × K` by a `K × N` array is the sum over the `K`
    coordinates. -/
theorem contraction (wf : DotDims.WF ⟨2, ![M, K]⟩ ⟨2, ![K, N]⟩ ⟨2, ![M, N]⟩ [1] [0] [0] [1] [] [])
    (A : (⟨2, ![M, K]⟩ : Shape).Idx → EReal) (B : (⟨2, ![K, N]⟩ : Shape).Idx → EReal) (r : Fin M) (l : Fin N) :
    (∑ k, A (DotDims.lhsIdx ⟨[1], [0], [0], [1], [], [], wf⟩ (ix2 r l) k) * B (DotDims.rhsIdx ⟨[1], [0], [0], [1], [], [], wf⟩ (ix2 r l) k))
      = ∑ k : Fin K, A (ix2 r k) * B (ix2 k l) := by
  rw [← Equiv.sum_comp (contrEquiv1 (⟨[1], [0], [0], [1], [], [], wf⟩ : DotDims _ _ _) K rfl rfl).symm]
  refine Finset.sum_congr rfl fun k _ => ?_
  have e := contrEquiv1_symm_val (⟨[1], [0], [0], [1], [], [], wf⟩ : DotDims _ _ _) K rfl rfl k
  congr 2
  · funext ax
    refine Fin.ext ?_
    match ax with
    | ⟨0, _⟩ => simp [DotDims.lhsIdx]; rfl
    | ⟨1, _⟩ => simp [DotDims.lhsIdx]; exact e
  · funext ax
    refine Fin.ext ?_
    match ax with
    | ⟨0, _⟩ => simp [DotDims.rhsIdx]; exact e
    | ⟨1, _⟩ => simp [DotDims.rhsIdx]; rfl

end Contraction

/-- The products of the kernel -/
theorem kernel_dot (A : S512x4096.Idx → EReal) (B : S4096x256.Idx → EReal) (i : S512x256.Idx) :
    (matmul (F := Ideal) (φ₁ := .fp8e4m3) (φ₂ := .fp8e4m3) dot_S512x4096_S4096x256_S512x256_1_0_0_1_n_n none A B
        (constant (F := Ideal) S512x256 .f32 0x00000000#32) : S512x256.Idx → EReal) i
      = dotRC A B (i 0) (i 1) := by
  refine (Ideal.matmul_constant_zero_apply (φ₁ := .fp8e4m3) (φ₂ := .fp8e4m3) dot_S512x4096_S4096x256_S512x256_1_0_0_1_n_n none A B i).trans ?_
  rw [eq_ix2 i]
  exact contraction _ A B _ _

/-- and of the references. -/
theorem ref_dot (d : DotDims (⟨2, ![4096, 4096]⟩ : Shape) (⟨2, ![4096, 2048]⟩ : Shape) (⟨2, ![4096, 2048]⟩ : Shape))
    (wf : DotDims.WF _ _ _ [1] [0] [0] [1] [] []) (hd : d = ⟨[1], [0], [0], [1], [], [], wf⟩)
    (A : (⟨2, ![4096, 4096]⟩ : Shape).Idx → EReal) (B : (⟨2, ![4096, 2048]⟩ : Shape).Idx → EReal)
    (i : (⟨2, ![4096, 2048]⟩ : Shape).Idx) :
    (Host.dotGeneral (F := Ideal) (φ₁ := .f32) (φ₂ := .f32) d none A B : (⟨2, ![4096, 2048]⟩ : Shape).Idx → EReal) i
      = dotRC A B (i 0) (i 1) := by
  subst hd
  refine (Ideal.dotGeneral_apply (φ₁ := .f32) (φ₂ := .f32) _ none _ A B i).trans ?_
  rw [eq_ix2 i]
  exact contraction wf A B _ _

/-! ## The blocks -/

section Kernel
variable (m : (ℓ : Loc nD τ sig) → Buf (Elt Ideal) ℓ)

/-- A block device `d` computes for device `c`, at an index: the silu of the scaled product of `d`'s row of `x` and
    `c`'s column of `d`'s `w`. -/
def block (d c : Dev nD) (i : S512x256.Idx) : EReal :=
  silu (dotRC (xin m d : S512x4096.Idx → EReal) (wcol m d c : S4096x256.Idx → EReal) (i 0) (i 1) * (scale m d : EReal))

/-- The weights of a slot, with the leading axis dropped, are the columns copied there. -/
theorem wslab_cast (d c : Dev nD) :
    shapeCast S4096x256 (wslab m d c) shapeCasts_S1x4096x256_S4096x256 = wcol m d c := by
  funext j
  show wcol m d c ((Shape.reshapeEquiv _).symm (Shape.reshapeEquiv _ j)) = _
  rw [Equiv.symm_apply_apply]

/-- The block as it is transferred -/
theorem chunk_eq (d c : Dev nD) (i : S512x256.Idx) : (chunk m d c i : EReal) = block m d c i := by
  unfold chunk chunkSlot k0_pay4
  rw [wslab_cast]
  show mulf (F := Ideal) (φ := .f32) _ _ (Shape.reshapeEquiv _ (Shape.reshapeEquiv _ i)) = _
  rw [Shape.reshapeEquiv_reshapeEquiv, Shape.reshapeEquiv_self]
  refine (mul_logistic _).trans ?_
  exact congrArg (fun t => silu (t * scale m d)) (kernel_dot (xin m d) (wcol m d c) i)

/-- and as it is written out: the rows of a slot are the block its partner computed. -/
theorem outv_eq (c : Dev nD) (q : Fin 8) (i : S512x256.Idx) : (outv m c q i : EReal) = block m (pr c q) c i := by
  unfold outv outSlot
  split
  · subst q
    rw [pr_own]
    unfold k0_pay10
    rw [wslab_cast]
    show mulf (F := Ideal) (φ := .f32) _ _ (Shape.reshapeEquiv _ (Shape.reshapeEquiv _ i)) = _
    rw [Shape.reshapeEquiv_reshapeEquiv, Shape.reshapeEquiv_self]
    refine (mul_logistic _).trans ?_
    exact congrArg (fun t => silu (t * scale m c)) (kernel_dot (xin m c) (wcol m c c) i)
  · rw [← chunk_eq m (pr c q) c i]
    show chunk m (pr c q) c (Shape.reshapeEquiv _ (Shape.reshapeEquiv _ i)) = _
    rw [Shape.reshapeEquiv_reshapeEquiv, Shape.reshapeEquiv_self]

/-- A row of a device's result is the row of the block computed by the device the row comes from. -/
theorem result_eq (c : Dev nD) (i : S4096x256.Idx) : (result m c i : EReal) = block m (rowDev i) c (inRow i) := by
  unfold result
  rw [outv_eq, show pr c ((slots c).symm (rowDev i)) = rowDev i from (slots c).apply_symm_apply _]

/-- The columns of the weights at an index. -/
theorem wcol_apply (d c : Dev nD) (k : Fin 4096) (l : Fin 256) :
    wcol m d c (ix2 k l) = (m ((d : Thread nD τ).loc main_arg1) : S4096x2048.Idx → EReal)
      (ix2 k ⟨c.val * 256 + l.val, by have := c.isLt; have := l.isLt; show _ < 2048; have : c.val < 8 := c.isLt; omega⟩) := by
  refine congrArg (m ((d : Thread nD τ).loc main_arg1) : S4096x2048.Idx → EReal) ?_
  funext a
  refine Fin.ext ?_
  match a with
  | ⟨0, _⟩ => exact ((cRect c).emb_apply (ix2 k l) 0).trans (by show 0 + 1 * k.val = k.val; omega)
  | ⟨1, _⟩ => exact ((cRect c).emb_apply (ix2 k l) 1).trans (by show 256 * c.val + 1 * l.val = c.val * 256 + l.val; omega)

variable (x : (⟨2, ![4096, 4096]⟩ : Shape).Idx → EReal) (w : (⟨2, ![4096, 2048]⟩ : Shape).Idx → EReal)
  (a b : (⟨1, ![1]⟩ : Shape).Idx → EReal)

/-- Where the devices hold the row blocks of `x`, and all of them `w`, `a` and `b`, each device's result is its block of
    columns of the whole result. -/
theorem result_block
    (hx : ∀ c : Dev nD, m ((c : Thread nD τ).loc main_arg0) = Layout.block ⟨2, ![512, 4096]⟩ ⟨2, ![4096, 4096]⟩ 0 8 c x)
    (hw : ∀ c : Dev nD, m ((c : Thread nD τ).loc main_arg1) = w)
    (ha : ∀ c : Dev nD, m ((c : Thread nD τ).loc main_arg2) = a)
    (hb : ∀ c : Dev nD, m ((c : Thread nD τ).loc main_arg3) = b) (c : Dev nD) :
    result m c = Layout.block ⟨2, ![4096, 256]⟩ ⟨2, ![4096, 2048]⟩ 1 8 c (whole x w a b) := by
  funext i
  refine (result_eq m c i).trans ?_
  unfold block
  rw [Layout.block_apply]
  unfold whole scaled
  congr 2
  · unfold dotRC
    refine Finset.sum_congr rfl fun k _ => ?_
    congr 1
    · unfold xin
      rw [hx, Layout.block_apply]
      congr 1
      funext ax
      refine Fin.ext ?_
      match ax with
      | ⟨0, _⟩ =>
        show (i 0).val / 512 * 512 + (i 0).val % 512 = (i 0).val
        exact Nat.div_add_mod' _ _
      | ⟨1, _⟩ => rfl
    · refine (wcol_apply m (rowDev i) c k (i 1)).trans ?_
      rw [hw]
      refine congrArg w ?_
      funext ax
      match ax with
      | ⟨0, _⟩ => rfl
      | ⟨1, _⟩ => rfl
  · show (_ : EReal) * _ = _
    rw [ha, hb]
    congr 2 <;> exact (eq_ix1 _).trans (congrArg ix1 (Subsingleton.elim (α := Fin 1) _ _))

end Kernel

/-! ## The references -/

section References
variable (x : (⟨2, ![4096, 4096]⟩ : Shape).Idx → EReal) (w : (⟨2, ![4096, 2048]⟩ : Shape).Idx → EReal)
  (a b : (⟨1, ![1]⟩ : Shape).Idx → EReal)

/-- The scaled product as each reference writes it, whatever the evidence of its shapes. -/
def refScaled (wf : DotDims.WF ⟨2, ![4096, 4096]⟩ ⟨2, ![4096, 2048]⟩ ⟨2, ![4096, 2048]⟩ [1] [0] [0] [1] [] [])
    (h1 : (⟨1, ![1]⟩ : Shape).BroadcastsInDim ⟨2, ![1, 1]⟩ ![1])
    (h2 : (⟨2, ![1, 1]⟩ : Shape).BroadcastsInDim ⟨2, ![4096, 2048]⟩ ![0, 1]) : FVec Ideal ⟨2, ![4096, 2048]⟩ .f32 :=
  mulf (Host.dotGeneral (F := Ideal) (φ₁ := .f32) (φ₂ := .f32) ⟨[1], [0], [0], [1], [], [], wf⟩ none x w)
    (broadcastInDim ⟨2, ![4096, 2048]⟩ ![0, 1] h2 (broadcastInDim ⟨2, ![1, 1]⟩ ![1] h1 (mulf (F := Ideal) (φ := .f32) a b)))

variable (wf : DotDims.WF ⟨2, ![4096, 4096]⟩ ⟨2, ![4096, 2048]⟩ ⟨2, ![4096, 2048]⟩ [1] [0] [0] [1] [] [])
  (h1 : (⟨1, ![1]⟩ : Shape).BroadcastsInDim ⟨2, ![1, 1]⟩ ![1])
  (h2 : (⟨2, ![1, 1]⟩ : Shape).BroadcastsInDim ⟨2, ![4096, 2048]⟩ ![0, 1])
  (h0 : (⟨0, ![]⟩ : Shape).BroadcastsInDim ⟨2, ![4096, 2048]⟩ ![])

/-- A single value spread over the array is that value at every index. -/
theorem spread_apply (v : (⟨1, ![1]⟩ : Shape).Idx → EReal) (i : (⟨2, ![4096, 2048]⟩ : Shape).Idx) :
    broadcastInDim ⟨2, ![4096, 2048]⟩ ![0, 1] h2 (broadcastInDim ⟨2, ![1, 1]⟩ ![1] h1 v) i = v (ix1 0) :=
  congrArg v ((eq_ix1 _).trans (congrArg ix1 (Subsingleton.elim (α := Fin 1) _ _)))

/-- It is the scaled product. -/
theorem refScaled_eq (i : (⟨2, ![4096, 2048]⟩ : Shape).Idx) : (refScaled x w a b wf h1 h2 i : EReal) = scaled x w a b i := by
  unfold refScaled scaled
  rw [mulf_apply, spread_apply, mulf_apply]
  exact congrArg (fun t : EReal => t * (a (ix1 0) * b (ix1 0))) (ref_dot _ wf rfl x w i)

/-- A constant read at an index is its word's value; -/
theorem splat_apply (φ : FTy) (u : BitVec φ.bits) (i : (⟨2, ![4096, 2048]⟩ : Shape).Idx) :
    (broadcastInDim ⟨2, ![4096, 2048]⟩ ![] h0 (constant (F := Ideal) ⟨0, ![]⟩ φ u) i : EReal) = Ideal.ofBits φ u := rfl

/-- a quotient by one more than an exponential; -/
theorem quotient_apply (y o z : FVec Ideal ⟨2, ![4096, 2048]⟩ .f32) (i : (⟨2, ![4096, 2048]⟩ : Shape).Idx) :
    (Host.divf y (addf o (Host.exp (Host.negf z))) i : EReal) = Ideal.div (y i) ((o i : EReal) + Ideal.exp (-(z i : EReal))) := rfl

/-- a value clipped; -/
theorem clip_apply (lo hi y : FVec Ideal ⟨2, ![4096, 2048]⟩ .f32) (i : (⟨2, ![4096, 2048]⟩ : Shape).Idx) :
    (minimumf (id hi) (maximumf (id lo) y) i : EReal) = min (hi i : EReal) (max (lo i : EReal) (y i)) := rfl

/-- and the two comparisons of the mask. -/
theorem mask_apply (lo hi y : FVec Ideal ⟨2, ![4096, 2048]⟩ .f32) (i : (⟨2, ![4096, 2048]⟩ : Shape).Idx) :
    andi (cmpf .oge y lo) (cmpf .ole y hi) i
      = BitVec.ofBool (decide ((lo i : EReal) ≤ y i)) &&& BitVec.ofBool (decide ((y i : EReal) ≤ hi i)) := rfl

/-- Both bits of a conjunction that is set are set. -/
theorem both_of_and {p q : Bool} (h : BitVec.ofBool p &&& BitVec.ofBool q = 1#1) : p = true ∧ q = true := by
  revert h
  cases p <;> cases q <;> decide

/-- What the reference that does not clip computes is the whole result. -/
theorem unclipped_eq :
    (Host.divf (F := Ideal) (φ := .f32) (refScaled x w a b wf h1 h2)
      (addf (broadcastInDim ⟨2, ![4096, 2048]⟩ ![] h0 (constant ⟨0, ![]⟩ .f32 0x3F800000#32))
        (Host.exp (Host.negf (refScaled x w a b wf h1 h2)))) : (⟨2, ![4096, 2048]⟩ : Shape).Idx → EReal)
      = whole x w a b := by
  funext i
  rw [quotient_apply, splat_apply, Ideal.ofBits_one_f32, refScaled_eq]
  unfold whole silu
  rfl

/-- What the reference that clips computes is the whole result where the mask is set. -/
theorem clipped_eq (i : (⟨2, ![4096, 2048]⟩ : Shape).Idx)
    (hi : (andi (cmpf (F := Ideal) (φ := .f32) .oge (refScaled x w a b wf h1 h2) (broadcastInDim ⟨2, ![4096, 2048]⟩ ![] h0 (constant ⟨0, ![]⟩ .f32 0xC2700000#32)))
      (cmpf (F := Ideal) (φ := .f32) .ole (refScaled x w a b wf h1 h2) (broadcastInDim ⟨2, ![4096, 2048]⟩ ![] h0 (constant ⟨0, ![]⟩ .f32 0x42700000#32)))) i = 1#1) :
    (Host.divf (F := Ideal) (φ := .f32) (refScaled x w a b wf h1 h2)
      (addf (broadcastInDim ⟨2, ![4096, 2048]⟩ ![] h0 (constant ⟨0, ![]⟩ .f32 0x3F800000#32))
        (Host.exp (Host.negf (minimumf (id (broadcastInDim ⟨2, ![4096, 2048]⟩ ![] h0 (constant ⟨0, ![]⟩ .f32 0x42700000#32)))
          (maximumf (id (broadcastInDim ⟨2, ![4096, 2048]⟩ ![] h0 (constant ⟨0, ![]⟩ .f32 0xC2700000#32)))
            (refScaled x w a b wf h1 h2)))))) i : EReal)
      = whole x w a b i := by
  rw [mask_apply] at hi
  obtain ⟨hl, hh⟩ := both_of_and hi
  rw [quotient_apply, clip_apply, max_eq_right (of_decide_eq_true hl), min_eq_right (of_decide_eq_true hh), splat_apply,
    Ideal.ofBits_one_f32, refScaled_eq]
  unfold whole silu
  rfl

end References

end Cert.Scatter

end
-- ==== Proof.lean ====
/-
# The eight-device product, silu and exchange

The kernel's run (proof/Proof/Launch.lean) is proved once, for any float values; both frames are that run. The value
claims are its reading over the extended reals (proof/Proof/Value.lean) next to the runs of the two references.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.UnclippedIdeal
public import proofs.«01_k».proof.Proof.Gen.UnclippedIdeal.Run
public import proofs.«01_k».proof.Proof.Gen.On_unclipped
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem

/-- The kernel, over the extended reals, runs to the end with its arguments unchanged and every counter at zero. -/
theorem frame_KernelIdeal : Cert.quiescent_KernelIdeal := fun m ρ _ =>
  (θ_run Cert.KernelIdeal.defs _ _).mono
    (fun _ h => ⟨fun c => ⟨(h.1 c).1, (h.1 c).2.1, (h.1 c).2.2.1, (h.1 c).2.2.2.1⟩, h.2⟩)
    (Cert.Scatter.run_main (F := Ideal) m ρ)

/-- The two printings of the kernel have the same bodies, -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl

/-- so the same definitions; -/
theorem defs_eq {F : FTy → Type} [FloatOps F] : Cert.Kernel.defs (F := F) = Cert.KernelIdeal.defs (F := F) := by
  unfold Cert.Kernel.defs Cert.KernelIdeal.defs
  rw [bodies_eq]
  rfl

/-- and the kernel runs over the machine's floats as it does over the extended reals. -/
theorem frame_Kernel : Cert.quiescent_Kernel := fun m ρ _ => by
  rw [defs_eq]
  exact (θ_run Cert.KernelIdeal.defs _ _).mono
    (fun _ h => ⟨fun c => ⟨(h.1 c).1, (h.1 c).2.1, (h.1 c).2.2.1, (h.1 c).2.2.2.1⟩, h.2⟩)
    (Cert.Scatter.run_main (F := Bits) m ρ)

/-- Each reference runs to the end with its arguments unchanged; it has no counter. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same of the reference that does not clip. -/
theorem frame_UnclippedIdeal : Cert.quiescent_UnclippedIdeal := fun m ρ _ =>
  (θ_run Cert.UnclippedIdeal.defs _ _).mono (fun r h => ⟨fun c => (h c).2, sem_eq_zero_of_no_sems (by decide) r.2⟩)
    (Cert.UnclippedIdeal.Value.run (F := Ideal) m ρ)

/-- Each device's result is its block of columns of what the reference without the clip computes. -/
theorem value_unclipped : Cert.algebraic_KernelIdeal_UnclippedIdeal := fun m g m' g' _ hm =>
  ⟨Cert.Scatter.whole _ _ _ _,
    (θ_run Cert.KernelIdeal.defs _ _).mono
      (fun _ h c => ⟨(h.1 c).2.2.2.2.trans (Cert.Scatter.result_block m _ _ _ _ (fun c => (hm c).1) (fun c => (hm c).2.1)
        (fun c => (hm c).2.2.1) (fun c => (hm c).2.2.2) c), (h.1 c).1, (h.1 c).2.1, (h.1 c).2.2.1, (h.1 c).2.2.2.1⟩)
      (Cert.Scatter.run_main (F := Ideal) m g),
    (θ_run Cert.UnclippedIdeal.defs _ _).mono
      (fun _ h => ⟨(h 0).1.trans (Cert.Scatter.unclipped_eq _ _ _ _ _ _ _ _), (h 0).2⟩)
      (Cert.UnclippedIdeal.Value.run (F := Ideal) m' g')⟩

/-- Where the clip of the reference changes nothing, each device's result is its block of columns of what it computes. -/
theorem value_reference : Cert.algebraic_KernelIdeal_ReferenceIdeal_on_unclipped := fun m g m' g' _ hm =>
  ⟨Cert.Scatter.whole _ _ _ _,
    (θ_run Cert.KernelIdeal.defs _ _).mono
      (fun _ h c => ⟨fun i _ => congrFun ((h.1 c).2.2.2.2.trans (Cert.Scatter.result_block m _ _ _ _ (fun c => (hm c).1)
        (fun c => (hm c).2.1) (fun c => (hm c).2.2.1) (fun c => (hm c).2.2.2) c)) i,
        (h.1 c).1, (h.1 c).2.1, (h.1 c).2.2.1, (h.1 c).2.2.2.1⟩)
      (Cert.Scatter.run_main (F := Ideal) m g),
    (θ_run Cert.ReferenceIdeal.defs _ _).mono
      (fun _ h => ⟨fun i hi => (congrFun (h 0).1 i).trans (Cert.Scatter.clipped_eq _ _ _ _ _ _ _ _ i hi), (h 0).2⟩)
      (Cert.ReferenceIdeal.Value.run (F := Ideal) m' g')⟩

/-- All the claims of the certificate. -/
theorem claim : Cert.Claim :=
  ⟨Cert.Kernel.Gen.facts, Cert.KernelIdeal.Gen.facts, Cert.ReferenceIdeal.Gen.facts, Cert.UnclippedIdeal.Gen.facts,
    Cert.On_unclipped.Gen.facts, frame_Kernel, frame_KernelIdeal, frame_ReferenceIdeal, frame_UnclippedIdeal, trivial,
    value_unclipped, value_reference⟩

end Cert.Proof

end
